-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S256x8x1024 : Shape := ⟨3, ![256, 8, 1024]⟩
abbrev S256x1024 : Shape := ⟨2, ![256, 1024]⟩
abbrev S_ : Shape := ⟨0, ![]⟩
abbrev S256x7x1024 : Shape := ⟨3, ![256, 7, 1024]⟩
abbrev S256x6x1024 : Shape := ⟨3, ![256, 6, 1024]⟩
abbrev S256x4x1024 : Shape := ⟨3, ![256, 4, 1024]⟩
abbrev S256x1x1024 : Shape := ⟨3, ![256, 1, 1024]⟩
abbrev S255x1024 : Shape := ⟨2, ![255, 1024]⟩
abbrev S254x1024 : Shape := ⟨2, ![254, 1024]⟩
abbrev S252x1024 : Shape := ⟨2, ![252, 1024]⟩
abbrev S248x1024 : Shape := ⟨2, ![248, 1024]⟩
abbrev S240x1024 : Shape := ⟨2, ![240, 1024]⟩
abbrev S224x1024 : Shape := ⟨2, ![224, 1024]⟩
abbrev S192x1024 : Shape := ⟨2, ![192, 1024]⟩
abbrev S128x1024 : Shape := ⟨2, ![128, 1024]⟩

abbrev nBuf : Space → Nat
  | .hbm => 2
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x8x1024, .f32⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 2 4 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v5 : BitVec 32 := Scalar.extui v4
  let c0_i32 : BitVec 32 := 0#32
  let v6 : BitVec 1 := Scalar.cmpi .ne v5 c0_i32
  v6

def k0_dev1 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_112 : BitVec 32 := 1#32
  let v131 : BitVec 32 := Scalar.addi v2 c1_i32_112
  let c1_i32_114 : BitVec 32 := 1#32
  let v132 : BitVec 32 := Scalar.muli v131 c1_i32_114
  let v133 : BitVec 32 := Scalar.addi c0_i32_115 v132
  v133.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_0 : BitVec 32 := 0#32
  let v7 : BitVec 1 := Scalar.cmpi .sgt v2 c0_i32_0
  let v8 : BitVec 32 := Scalar.extui v7
  let c0_i32_1 : BitVec 32 := 0#32
  let v9 : BitVec 1 := Scalar.cmpi .ne v8 c0_i32_1
  v9

def k0_dev2 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_112 : BitVec 32 := 1#32
  let v131 : BitVec 32 := Scalar.subi v2 c1_i32_112
  let c1_i32_114 : BitVec 32 := 1#32
  let v132 : BitVec 32 := Scalar.muli v131 c1_i32_114
  let v133 : BitVec 32 := Scalar.addi c0_i32_115 v132
  v133.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_83 : BitVec 32 := 0#32
  let v97 : BitVec 1 := Scalar.cmpi .sgt v2 c0_i32_83
  let v98 : BitVec 32 := Scalar.extui v97
  let c0_i32_84 : BitVec 32 := 0#32
  let v99 : BitVec 1 := Scalar.cmpi .ne v98 c0_i32_84
  v99

def k0_dev3 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_119 : BitVec 32 := 1#32
  let v137 : BitVec 32 := Scalar.subi v2 c1_i32_119
  let c1_i32_121 : BitVec 32 := 1#32
  let v138 : BitVec 32 := Scalar.muli v137 c1_i32_121
  let v139 : BitVec 32 := Scalar.addi c0_i32_122 v138
  v139.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_91 : BitVec 32 := 31#32
  let v107 : BitVec 1 := Scalar.cmpi .slt v2 c31_i32_91
  let v108 : BitVec 32 := Scalar.extui v107
  let c0_i32_92 : BitVec 32 := 0#32
  let v109 : BitVec 1 := Scalar.cmpi .ne v108 c0_i32_92
  v109

def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v106 : BitVec 32 := Scalar.addi v2 c1_i32_90
  let c1_i32_112 : BitVec 32 := 1#32
  let v131 : BitVec 32 := Scalar.muli v106 c1_i32_112
  let v132 : BitVec 32 := Scalar.addi c0_i32_113 v131
  v132.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S65536x1024, .f32⟩
  | .hbm, ⟨5, _⟩ => ⟨S_, .i32⟩
  | .hbm, ⟨6, _⟩ => ⟨S65536x1024, .f32⟩
  | .hbm, ⟨7, _⟩ => ⟨S_, .i32⟩
  | .hbm, ⟨8, _⟩ => ⟨S1024, .f32⟩
  | .hbm, ⟨9, _⟩ => ⟨S65536x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S65536x1024, .f32⟩
  | .hbm, ⟨19, _⟩ => ⟨S_, .i32⟩
  | .hbm, ⟨20, _⟩ => ⟨S_, .i32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 65536#32, 1#32⟩
-- ==== Proof.Values.lean ====
/-
# What the buffers of the chain kernel hold

Each device holds 2048 rows of 1024 columns. The kernel views them as 256 blocks of 8 rows, makes the running
product of the rows within each block (three doubling passes), then the running product of the block totals over
the blocks (eight doubling passes). The total of the whole device, times the product of everything held by the
devices before it, is handed to the next device. The definitions below name the contents of every buffer after each
store, for any float values, so that the run can speak of them by name.
-/
module

public import proofs.«01_k».proof.Proof.Gen.KernelIdeal
public import proofs.«01_k».proof.Proof.Gen.KernelIdeal.Skeleton
public import Idealize.ShloMosaic.Lib.Writes
public import Idealize.ShloMosaic.Lib.WritesUnit
public import Idealize.ShloMosaic.Lib.Pipeline.Value

@[expose] public section

noncomputable section

namespace Cert.KernelIdeal.Run

open Cert.KernelIdeal Cert.KernelIdeal.Gen
open Idealize.ShloMosaic Idealize.ShloMosaic.TcCoe

variable {F : FTy → Type} [FloatOps F]

/-! ## The buffers -/

/-- The staged block of the argument. -/
abbrev xM : Memref sig .tc .vmem S2048x1024 .f32 := Memref.whole cc0_stg0_0
/-- The staged block of the result. -/
abbrev oM : Memref sig .tc .vmem S2048x1024 .f32 := Memref.whole cc0_stg1_0
/-- Where the product of everything before this device lands. -/
abbrev pfM : Memref sig .tc .vmem S1x1024 .f32 := Memref.whole cc0_scratch0
/-- The device's own copy of that product. -/
abbrev pcM : Memref sig .tc .vmem S1x1024 .f32 := Memref.whole cc0_scratch1
/-- What is sent to the next device. -/
abbrev sbM : Memref sig .tc .vmem S1x1024 .f32 := Memref.whole cc0_scratch2
/-- The running products within each block of 8 rows. -/
abbrev s3M : Memref sig .tc .vmem S256x8x1024 .f32 := Memref.whole cc0_scratch3
/-- The running products of the block totals. -/
abbrev btM : Memref sig .tc .vmem S256x1024 .f32 := Memref.whole cc0_scratch4
/-- What multiplies each block: the product of everything before it. -/
abbrev ebM : Memref sig .tc .vmem S256x1024 .f32 := Memref.whole cc0_scratch5

/-- The contents of a 2048-row buffer, -/
abbrev CX (F : FTy → Type) : Type := (cc0_stg0_0 : Ref sig .tc).ty.Contents (Elt F)
/-- of a one-row buffer, -/
abbrev CP (F : FTy → Type) : Type := (cc0_scratch0 : Ref sig .tc).ty.Contents (Elt F)
/-- of the buffer of blocks of rows, -/
abbrev C3 (F : FTy → Type) : Type := (cc0_scratch3 : Ref sig .tc).ty.Contents (Elt F)
/-- and of a 256-row buffer. -/
abbrev CB (F : FTy → Type) : Type := (cc0_scratch4 : Ref sig .tc).ty.Contents (Elt F)

/-! ## The rectangles the kernel loads and stores through -/

abbrev rX : Rect S2048x1024 := Rect.unit (s := S2048x1024) ![0, 0] S2048x1024.size inb_S2048x1024_S2048x1024_0_0
abbrev rP : Rect S1x1024 := Rect.unit (s := S1x1024) ![0, 0] S1x1024.size inb_S1x1024_S1x1024_0_0
abbrev rS : Rect S256x8x1024 := Rect.unit (s := S256x8x1024) ![0, 0, 0] S256x8x1024.size inb_S256x8x1024_S256x8x1024_0_0_0
abbrev rB : Rect S256x1024 := Rect.unit (s := S256x1024) ![0, 0] S256x1024.size inb_S256x1024_S256x1024_0_0

abbrev h1 : Rect S256x8x1024 := Rect.unit (s := S256x8x1024) ![0, 1, 0] S256x7x1024.size inb_S256x8x1024_S256x7x1024_0_1_0
abbrev l1 : Rect S256x8x1024 := Rect.unit (s := S256x8x1024) ![0, 0, 0] S256x7x1024.size inb_S256x8x1024_S256x7x1024_0_0_0
abbrev h2 : Rect S256x8x1024 := Rect.unit (s := S256x8x1024) ![0, 2, 0] S256x6x1024.size inb_S256x8x1024_S256x6x1024_0_2_0
abbrev l2 : Rect S256x8x1024 := Rect.unit (s := S256x8x1024) ![0, 0, 0] S256x6x1024.size inb_S256x8x1024_S256x6x1024_0_0_0
abbrev h4 : Rect S256x8x1024 := Rect.unit (s := S256x8x1024) ![0, 4, 0] S256x4x1024.size inb_S256x8x1024_S256x4x1024_0_4_0
abbrev l4 : Rect S256x8x1024 := Rect.unit (s := S256x8x1024) ![0, 0, 0] S256x4x1024.size inb_S256x8x1024_S256x4x1024_0_0_0
abbrev t7 : Rect S256x8x1024 := Rect.unit (s := S256x8x1024) ![0, 7, 0] S256x1x1024.size inb_S256x8x1024_S256x1x1024_0_7_0

abbrev H1 : Rect S256x1024 := Rect.unit (s := S256x1024) ![1, 0] S255x1024.size inb_S256x1024_S255x1024_1_0
abbrev L1 : Rect S256x1024 := Rect.unit (s := S256x1024) ![0, 0] S255x1024.size inb_S256x1024_S255x1024_0_0
abbrev H2 : Rect S256x1024 := Rect.unit (s := S256x1024) ![2, 0] S254x1024.size inb_S256x1024_S254x1024_2_0
abbrev L2 : Rect S256x1024 := Rect.unit (s := S256x1024) ![0, 0] S254x1024.size inb_S256x1024_S254x1024_0_0
abbrev H4 : Rect S256x1024 := Rect.unit (s := S256x1024) ![4, 0] S252x1024.size inb_S256x1024_S252x1024_4_0
abbrev L4 : Rect S256x1024 := Rect.unit (s := S256x1024) ![0, 0] S252x1024.size inb_S256x1024_S252x1024_0_0
abbrev H8 : Rect S256x1024 := Rect.unit (s := S256x1024) ![8, 0] S248x1024.size inb_S256x1024_S248x1024_8_0
abbrev L8 : Rect S256x1024 := Rect.unit (s := S256x1024) ![0, 0] S248x1024.size inb_S256x1024_S248x1024_0_0
abbrev H16 : Rect S256x1024 := Rect.unit (s := S256x1024) ![16, 0] S240x1024.size inb_S256x1024_S240x1024_16_0
abbrev L16 : Rect S256x1024 := Rect.unit (s := S256x1024) ![0, 0] S240x1024.size inb_S256x1024_S240x1024_0_0
abbrev H32 : Rect S256x1024 := Rect.unit (s := S256x1024) ![32, 0] S224x1024.size inb_S256x1024_S224x1024_32_0
abbrev L32 : Rect S256x1024 := Rect.unit (s := S256x1024) ![0, 0] S224x1024.size inb_S256x1024_S224x1024_0_0
abbrev H64 : Rect S256x1024 := Rect.unit (s := S256x1024) ![64, 0] S192x1024.size inb_S256x1024_S192x1024_64_0
abbrev L64 : Rect S256x1024 := Rect.unit (s := S256x1024) ![0, 0] S192x1024.size inb_S256x1024_S192x1024_0_0
abbrev H128 : Rect S256x1024 := Rect.unit (s := S256x1024) ![128, 0] S128x1024.size inb_S256x1024_S128x1024_128_0
abbrev L128 : Rect S256x1024 := Rect.unit (s := S256x1024) ![0, 0] S128x1024.size inb_S256x1024_S128x1024_0_0
abbrev rLast : Rect S256x1024 := Rect.unit (s := S256x1024) ![255, 0] S1x1024.size inb_S256x1024_S1x1024_255_0
abbrev rFirst : Rect S256x1024 := Rect.unit (s := S256x1024) ![0, 0] S1x1024.size inb_S256x1024_S1x1024_0_0

/-- What a load of the blocks of rows reads. -/
abbrev rd3 (r : Rect S256x8x1024) (f : C3 F) : r.shape.Idx → Elt F .f32 := (s3M : Memref sig .tc .vmem S256x8x1024 .f32).view.readAt (Elt F) r.toLoadRect f
/-- What a store leaves in it. -/
abbrev wr3 (r : Rect S256x8x1024) (f : C3 F) (w : r.shape.Idx → Elt F .f32) : C3 F :=
  ((s3M : Memref sig .tc .vmem S256x8x1024 .f32).access r : View sig .tc _ _ _).write (Elt F) f w Finset.univ
/-- What a load of the block totals reads. -/
abbrev rdB (r : Rect S256x1024) (f : CB F) : r.shape.Idx → Elt F .f32 := (btM : Memref sig .tc .vmem S256x1024 .f32).view.readAt (Elt F) r.toLoadRect f
/-- What a store leaves in them. -/
abbrev wrB (r : Rect S256x1024) (f : CB F) (w : r.shape.Idx → Elt F .f32) : CB F :=
  ((btM : Memref sig .tc .vmem S256x1024 .f32).access r : View sig .tc _ _ _).write (Elt F) f w Finset.univ
/-- What a store leaves in the buffer of block multipliers. -/
abbrev wrE (r : Rect S256x1024) (f : CB F) (w : r.shape.Idx → Elt F .f32) : CB F :=
  ((ebM : Memref sig .tc .vmem S256x1024 .f32).access r : View sig .tc _ _ _).write (Elt F) f w Finset.univ

/-! ## The running products within the blocks -/

/-- The rows, in blocks of 8, -/
def s0 (x : CX F) : C3 F := k0_pay4 x
/-- after the pass of distance 1, -/
def s1 (x : CX F) : C3 F := wr3 h1 (s0 x) (k0_pay5 (rd3 h1 (s0 x)) (rd3 l1 (s0 x)))
/-- of distance 2, -/
def s2 (x : CX F) : C3 F := wr3 h2 (s1 x) (k0_pay7 (k0_pay6 (rd3 h2 (s1 x)) (rd3 l2 (s1 x))))
/-- and of distance 4. -/
def s3 (x : CX F) : C3 F := wr3 h4 (s2 x) (k0_pay8 (rd3 h4 (s2 x)) (rd3 l4 (s2 x)))

/-! ## The running products of the block totals -/

/-- The block totals, -/
def b0 (x : CX F) : CB F := k0_pay9 (rd3 t7 (s3 x))
/-- after the pass of distance 1, -/
def b1 (x : CX F) : CB F := wrB H1 (b0 x) (k0_pay10 (rdB H1 (b0 x)) (rdB L1 (b0 x)))
/-- of distance 2, -/
def b2 (x : CX F) : CB F := wrB H2 (b1 x) (k0_pay11 (rdB H2 (b1 x)) (rdB L2 (b1 x)))
/-- of distance 4, -/
def b4 (x : CX F) : CB F := wrB H4 (b2 x) (k0_pay12 (rdB H4 (b2 x)) (rdB L4 (b2 x)))
/-- of distance 8, -/
def b8 (x : CX F) : CB F := wrB H8 (b4 x) (k0_pay13 (rdB H8 (b4 x)) (rdB L8 (b4 x)))
/-- of distance 16, -/
def b16 (x : CX F) : CB F := wrB H16 (b8 x) (k0_pay14 (rdB H16 (b8 x)) (rdB L16 (b8 x)))
/-- of distance 32, -/
def b32 (x : CX F) : CB F := wrB H32 (b16 x) (k0_pay15 (rdB H32 (b16 x)) (rdB L32 (b16 x)))
/-- of distance 64, -/
def b64 (x : CX F) : CB F := wrB H64 (b32 x) (k0_pay16 (rdB H64 (b32 x)) (rdB L64 (b32 x)))
/-- and of distance 128. -/
def b128 (x : CX F) : CB F := wrB H128 (b64 x) (k0_pay17 (rdB H128 (b64 x)) (rdB L128 (b64 x)))

/-! ## The product handed along the chain -/

/-- The product of everything before the `n`-th device, device `n`'s rows being `xs n`. -/
def pcAt (xs : ℕ → CX F) : ℕ → CP F
  | 0 => k0_pay18
  | n + 1 => k0_pay19 (k0_pay20 (pcAt xs n) (rdB rLast (b128 (xs n))))
/-- What the `n`-th device sends: that product times all its own rows. -/
def sbAt (xs : ℕ → CX F) (n : ℕ) : CP F := k0_pay20 (pcAt xs n) (rdB rLast (b128 (xs n)))

theorem pcAt_succ (xs : ℕ → CX F) (n : ℕ) : pcAt xs (n + 1) = k0_pay19 (sbAt xs n) := rfl

/-! ## What multiplies each block, and the result -/

/-- The block multipliers: the first block takes what came in, every other that times the blocks before it. -/
def ebAt (x : CX F) (p : CP F) : CB F := wrE rFirst (wrE H1 (b128 x) (k0_pay1 (rdB L1 (b128 x)) p)) (k0_pay2 p)
/-- The device's result. -/
def outOf (x : CX F) (p : CP F) : CX F := k0_pay3 (s3 x) (ebAt x p)

/-- A store of whole rows `[o, o + W)` of a 256-row buffer, read at an index: what was stored inside, what was held outside. -/
theorem wrE_rows {o W : ℕ} (inb : ∀ a : Fin 2, (![o, 0] : Fin 2 → ℕ) a + (![W, 1024] : Fin 2 → ℕ) a ≤ S256x1024.size a) (f : CB F)
    (w : (Rect.unit (s := S256x1024) ![o, 0] ![W, 1024] inb).shape.Idx → Elt F .f32) (y : S256x1024.Idx) :
    wrE (Rect.unit (s := S256x1024) ![o, 0] ![W, 1024] inb) f w y
      = if h : o ≤ (y (0 : Fin 2)).val ∧ (y (0 : Fin 2)).val < o + W then
          w (Rect.unitLocal (s := S256x1024) (off := ![o, 0]) (size := ![W, 1024]) y (Rect.unit_rows_mem y rfl rfl h))
        else f y :=
  View.read_writes_cons_rows (Val := Elt F) (View.whole cc0_scratch5 : View sig .tc _ S256x1024 .f32) f inb w [] y rfl rfl rfl

theorem wrB_eq_wrE (r : Rect S256x1024) (f : CB F) (w : r.shape.Idx → Elt F .f32) : wrB r f w = wrE r f w := rfl

/-- The two stores of the block multipliers leave the same contents whatever the buffer held. -/
theorem wrE_wrE (f g : CB F) (w : (H1 : Rect S256x1024).shape.Idx → Elt F .f32) (w' : (rFirst : Rect S256x1024).shape.Idx → Elt F .f32) :
    wrE rFirst (wrE H1 f w) w' = wrE rFirst (wrE H1 g w) w' := by
  funext y
  have hy : (y (0 : Fin 2)).val < 256 := (y (0 : Fin 2)).isLt
  refine (wrE_rows (o := 0) (W := 1) _ _ w' y).trans (Eq.trans ?_ (wrE_rows (o := 0) (W := 1) _ _ w' y).symm)
  by_cases h : 0 ≤ (y (0 : Fin 2)).val ∧ (y (0 : Fin 2)).val < 0 + 1
  · rw [dif_pos h, dif_pos h]
  · rw [dif_neg h, dif_neg h]
    refine (wrE_rows (o := 1) (W := 255) _ f w y).trans (Eq.trans ?_ (wrE_rows (o := 1) (W := 255) _ g w y).symm)
    have h' : 1 ≤ (y (0 : Fin 2)).val ∧ (y (0 : Fin 2)).val < 1 + 255 := by omega
    rw [dif_pos h', dif_pos h']

end Cert.KernelIdeal.Run

end
-- ==== Proof.Protocol.lean ====
/-
# The chain's protocol

Thirty-two devices stand in a line. Each tells both neighbours, on the shared barrier semaphore, that it has entered
the kernel; waits to hear from both; waits for the product of everything before it to land in its landing buffer;
acknowledges that to the device before it; and sends its own total to the device after it. The first device has
nobody before it and the last nobody after it, so the first neither receives nor acknowledges and the last neither
sends nor is acknowledged.

Four semaphores per device, each used in one round:
* the barrier: one unit from the device before (carrying nothing), if there is one, and one from the device after
  (carrying that device's landing buffer, and that its receive semaphore is ready), if there is one;
* send: the transfer's credit, returning the sent buffer;
* receive: the transfer's credit from the device before, carrying the landing buffer at what was sent;
* acknowledgement: one unit from the device after, carrying nothing.
-/
module

public import proofs.«01_k».proof.Proof.Values
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The chain's round records, duties named by a `Bool`. -/
abbrev UB : Type := URounds (GSem nD τ sig) Bool
/-- The pipeline's records beside them. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The line of devices (closed into a ring, so that every device has a named neighbour each side) -/

set_option backward.proofsInPublic true in
/-- The device after `c`. -/
def nxt (c : Dev nD) : Dev nD := ⟨(c.val + 1) % 32, Nat.mod_lt _ (by decide)⟩
set_option backward.proofsInPublic true in
/-- The device before `c`. -/
def prv (c : Dev nD) : Dev nD := ⟨(c.val + 31) % 32, Nat.mod_lt _ (by decide)⟩

theorem prv_nxt (c : Dev nD) : prv (nxt c) = c := by revert c; decide +kernel
theorem nxt_prv (c : Dev nD) : nxt (prv c) = c := by revert c; decide +kernel
def ring : Dev nD ≃ Dev nD := ⟨nxt, prv, prv_nxt, nxt_prv⟩

theorem nxt_val (c : Dev nD) (h : c.val < 31) : (nxt c).val = c.val + 1 := by
  show (c.val + 1) % 32 = c.val + 1; omega
theorem prv_val (c : Dev nD) (h : 0 < c.val) : (prv c).val = c.val - 1 := by
  have : c.val < 32 := c.isLt
  show (c.val + 31) % 32 = c.val - 1; omega

/-- The conditions the kernel branches on: whether there is a device after, and whether there is one before. -/
theorem cond1_iff (c : Dev nD) : k0_cond1 c = 1#1 ↔ c.val < 31 := by revert c; decide +kernel
theorem cond2_iff (c : Dev nD) : k0_cond2 c = 1#1 ↔ 0 < c.val := by revert c; decide +kernel
theorem cond5_iff (c : Dev nD) : k0_cond5 c = 1#1 ↔ 0 < c.val := by revert c; decide +kernel
theorem cond6_iff (c : Dev nD) : k0_cond6 c = 1#1 ↔ c.val < 31 := by revert c; decide +kernel
/-- The device's place in the line, as the kernel computes it. -/
def posW (c : Dev nD) : BitVec 32 := Scalar.remsi (Scalar.divsi (Dev.word c) 1#32) 32#32
theorem condUp_iff (c : Dev nD) : Scalar.cmpi .ne (Scalar.extui (Scalar.cmpi .slt (posW c) 31#32) : BitVec 32) 0#32 = 1#1 ↔ c.val < 31 := by
  revert c; decide +kernel
theorem condDn_iff (c : Dev nD) : Scalar.cmpi .ne (Scalar.extui (Scalar.cmpi .sgt (posW c) 0#32) : BitVec 32) 0#32 = 1#1 ↔ 0 < c.val := by
  revert c; decide +kernel

/-- The devices the kernel addresses: the one after, the one before, the one before again, the one after again. -/
theorem dev1_eq (c : Dev nD) (h : k0_cond1 c = 1#1) : (⟨k0_dev1 c, k0_dev1_lt c h⟩ : Dev nD) = nxt c :=
  Fin.ext (by revert c; decide +kernel)
theorem dev2_eq (c : Dev nD) (h : k0_cond2 c = 1#1) : (⟨k0_dev2 c, k0_dev2_lt c h⟩ : Dev nD) = prv c :=
  Fin.ext (by revert c; decide +kernel)
theorem dev3_eq (c : Dev nD) (h : k0_cond5 c = 1#1) : (⟨k0_dev3 c, k0_dev3_lt c h⟩ : Dev nD) = prv c :=
  Fin.ext (by revert c; decide +kernel)
theorem dev4_eq (c : Dev nD) (h : k0_cond6 c = 1#1) : (⟨k0_dev4 c, k0_dev4_lt c h⟩ : Dev nD) = nxt c :=
  Fin.ext (by revert c; decide +kernel)

/-! ## The semaphores -/

/-- The barrier semaphore, which outlives the launch; -/
abbrev barS : Sem sig := (SemArray.scalar (sig.barrier 0 rfl) : Sems sig S_).sem
/-- the transfer's two; -/
abbrev sendS : DmaSem sig := (cc0_scratch6 : DmaSems sig S_).sem
abbrev recvS : DmaSem sig := (cc0_scratch7 : DmaSems sig S_).sem
/-- and the acknowledgement's. -/
abbrev ackS : Sem sig := (cc0_scratch8 : Sems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
abbrev ackCell (c : Dev nD) : GSem nD τ sig := ((c : Thread nD τ), .reg ackS)

/-- The kernel's own semaphores: send, receive, acknowledgement; -/
abbrev osem : Fin 3 → SemLoc sig := fun | 0 => .dma sendS | 1 => .dma recvS | 2 => .reg ackS
/-- all four: the barrier first. -/
abbrev csem : Fin 4 → SemLoc sig := fun | 0 => .reg barS | 1 => .dma sendS | 2 => .dma recvS | 3 => .reg ackS
abbrev kcell (ck : Dev nD × Fin 4) : GSem nD τ sig := ((ck.1 : Thread nD τ), csem ck.2)

/-- The credit of the transfer of one row. -/
abbrev N : ℕ := (pfM : Memref sig .tc .vmem S1x1024 .f32).view.dmaCredit
theorem N_pos : 0 < N := View.dmaCredit_pos _ (by decide)

/-! ## Contents -/

/-- Device `c`'s block of the argument, as its staging buffer holds it. -/
def xstg (c : Dev nD) : CX F := (win0_0.blk (0 : Fin 1)).view.read (Elt F) ((s₀ m ρ).mem ((c : Thread nD τ).loc main_arg0))
set_option backward.proofsInPublic true in
/-- The same by a place in the line. -/
def xsAt (n : ℕ) : CX F := xstg m ρ ⟨n % 32, Nat.mod_lt _ (by decide)⟩
theorem xsAt_val (c : Dev nD) : xsAt m ρ c.val = xstg m ρ c := by
  unfold xsAt; congr 1; exact Fin.ext (Nat.mod_eq_of_lt c.isLt)

/-- The product of everything before device `c`. -/
def pcv (c : Dev nD) : CP F := pcAt (xsAt m ρ) c.val
/-- What device `c` sends. -/
def sbv (c : Dev nD) : CP F := k0_pay20 (pcv m ρ c) (rdB rLast (b128 (xstg m ρ c)))
theorem pcv_first (c : Dev nD) (h : c.val = 0) : pcv m ρ c = k0_pay18 := by unfold pcv; rw [h]; rfl
theorem pcv_later (c : Dev nD) (h : 0 < c.val) : pcv m ρ c = k0_pay19 (sbv m ρ (prv c)) := by
  unfold pcv sbv pcv
  rw [← xsAt_val m ρ (prv c), prv_val c h]
  obtain ⟨n, hn⟩ : ∃ n, c.val = n + 1 := ⟨c.val - 1, by omega⟩
  rw [hn]; rfl

/-- Device `c`'s result. -/
def outAt (c : Dev nD) : CX F := outOf (xstg m ρ c) (pcv m ρ c)

/-- Device `c`'s landing buffer holding `f`, -/
def pfPts (c : Dev nD) (f : CP F) : sProp 𝕄 :=
  (pfM : Memref sig .tc .vmem S1x1024 .f32).view.loc (c : Thread nD τ) ↦[(pfM : Memref sig .tc .vmem S1x1024 .f32).view.set]{fullShare} f
/-- and its buffer to send. -/
def sbPts (c : Dev nD) (f : CP F) : sProp 𝕄 :=
  (sbM : Memref sig .tc .vmem S1x1024 .f32).view.loc (c : Thread nD τ) ↦[(sbM : Memref sig .tc .vmem S1x1024 .f32).view.set]{fullShare} f

omit [FloatOps F] in
instance pfPts_storable (c : Dev nD) (f) : BI.Storable (upEmb : UEmb _ 𝕄) (pfPts (F := F) c f) := by unfold pfPts; infer_instance
omit [FloatOps F] in
instance sbPts_storable (c : Dev nD) (f) : BI.Storable (upEmb : UEmb _ 𝕄) (sbPts (F := F) c f) := by unfold sbPts; infer_instance

omit [FloatOps F] in
theorem pfPts_eq (c : Dev nD) (f : CP F) : pfPts c f = (((c : Thread nD τ).loc cc0_scratch0) ↦{fullShare} f : sProp 𝕄) := by
  unfold pfPts; rw [View.set_whole]
omit [FloatOps F] in
theorem sbPts_eq (c : Dev nD) (f : CP F) : sbPts c f = (((c : Thread nD τ).loc cc0_scratch2) ↦{fullShare} f : sProp 𝕄) := by
  unfold sbPts; rw [View.set_whole]

omit [FloatOps F] in
/-- A row landing whole replaces what the landing buffer held. -/
theorem landed_eq (fd : CP F) (fs : CP F) :
    (pfM : Memref sig .tc .vmem S1x1024 .f32).view.write (Elt F) fd ((sbM : Memref sig .tc .vmem S1x1024 .f32).view.read (Elt F) fs) Finset.univ = fs := by
  show (View.whole cc0_scratch0).write (Elt F) fd ((View.whole cc0_scratch2).read (Elt F) fs) Finset.univ = fs
  rw [View.read_whole]
  exact View.write_whole_univ _ _ _

/-! ## The schedule -/

/-- What the device after `c` hands it on entering: its landing buffer, and that its receive semaphore is ready. -/
def barPay (c : Dev nD) : sProp 𝕄 := iprop((∃ f, pfPts (nxt c) f) ∗ reached ER (recvCell (nxt c)) 0)
def recvPay (c : Dev nD) : sProp 𝕄 := pfPts c (sbv m ρ (prv c))
def sendPay (c : Dev nD) : sProp 𝕄 := sbPts c (sbv m ρ c)

/-- The duties of the semaphores of a device at place `n`: `false` is paid by the device before (for the barrier and the
    receive semaphore), by the device after (for the acknowledgement), or by the device's own transfer; `true` is the
    barrier's unit from the device after. -/
def dutiesAt (n : ℕ) (sm : SemLoc sig) : Finset Bool :=
  if sm = .reg barS then (if n = 0 then {true} else if n = 31 then {false} else {false, true})
  else if sm = .dma recvS then (if 0 < n then {false} else ∅)
  else if sm = .dma sendS ∨ sm = .reg ackS then (if n < 31 then {false} else ∅)
  else ∅

/-- One round per semaphore. -/
def chainRd : Rounds.Schedule (GSem nD τ sig) Bool 𝕄 where
  duties g r := if r = 0 ∧ g.1.2 = .tc then dutiesAt g.1.1.val g.2 else ∅
  unitless _ := False
  amount g _ _ := if g.2 = .dma sendS ∨ g.2 = .dma recvS then N else 1
  payload g _ d :=
    if g.2 = .reg barS then (if d then barPay g.1.1 else iprop(emp))
    else if g.2 = .dma recvS then recvPay m ρ g.1.1
    else if g.2 = .dma sendS then sendPay m ρ g.1.1
    else iprop(emp)
  amount_pos g _ _ _ := by
    split
    · exact N_pos
    · exact Nat.one_pos

instance chainRd_payload_storable (g : GSem nD τ sig) (r : ℕ) (d : Bool) :
    BI.Storable (upEmb : UEmb _ 𝕄) ((chainRd (F := F) m ρ).payload g r d) := by
  show BI.Storable upEmb (if g.2 = .reg barS then (if d then barPay g.1.1 else iprop(emp)) else if g.2 = .dma recvS then recvPay m ρ g.1.1
    else if g.2 = .dma sendS then sendPay m ρ g.1.1 else iprop(emp))
  unfold barPay recvPay sendPay
  (repeat' split) <;> infer_instance

theorem send_ne_bar : (SemLoc.dma sendS : SemLoc sig) ≠ .reg barS := fun h => by cases h
theorem recv_ne_bar : (SemLoc.dma recvS : SemLoc sig) ≠ .reg barS := fun h => by cases h
theorem ack_ne_bar : (SemLoc.reg ackS : SemLoc sig) ≠ .reg barS := by decide
theorem send_ne_recv : (SemLoc.dma sendS : SemLoc sig) ≠ .dma recvS := by decide
theorem ack_ne_recv : (SemLoc.reg ackS : SemLoc sig) ≠ .dma recvS := fun h => by cases h
theorem ack_ne_send : (SemLoc.reg ackS : SemLoc sig) ≠ .dma sendS := fun h => by cases h
theorem bar_ne_dma (q : DmaSem sig) : (SemLoc.reg barS : SemLoc sig) ≠ .dma q := fun h => by cases h

section Sched
variable (c : Dev nD)

theorem duties_bar : (chainRd (F := F) m ρ).duties (barCell c) 0 = if c.val = 0 then {true} else if c.val = 31 then {false} else {false, true} := by
  dsimp only [chainRd]; rw [if_pos ⟨rfl, rfl⟩]; exact if_pos rfl
theorem duties_recv : (chainRd (F := F) m ρ).duties (recvCell c) 0 = if 0 < c.val then {false} else ∅ := by
  dsimp only [chainRd]; rw [if_pos ⟨rfl, rfl⟩]; unfold dutiesAt; rw [if_neg recv_ne_bar, if_pos rfl]
theorem duties_send : (chainRd (F := F) m ρ).duties (sendCell c) 0 = if c.val < 31 then {false} else ∅ := by
  dsimp only [chainRd]; rw [if_pos ⟨rfl, rfl⟩]; unfold dutiesAt; rw [if_neg send_ne_bar, if_neg send_ne_recv, if_pos (.inl rfl)]
theorem duties_ack : (chainRd (F := F) m ρ).duties (ackCell c) 0 = if c.val < 31 then {false} else ∅ := by
  dsimp only [chainRd]; rw [if_pos ⟨rfl, rfl⟩]; unfold dutiesAt; rw [if_neg ack_ne_bar, if_neg ack_ne_recv, if_pos (.inr rfl)]
theorem duties_later (g : GSem nD τ sig) : ∀ r, 1 ≤ r → (chainRd (F := F) m ρ).duties g r = ∅ :=
  fun r hr => by dsimp only [chainRd]; exact if_neg fun h => by omega

theorem amount_bar (d : Bool) : (chainRd (F := F) m ρ).amount (barCell c) 0 d = 1 := by
  dsimp only [chainRd]; exact if_neg (fun h => h.elim (bar_ne_dma _) (bar_ne_dma _))
theorem amount_ack (d : Bool) : (chainRd (F := F) m ρ).amount (ackCell c) 0 d = 1 := by
  dsimp only [chainRd]; exact if_neg (fun h => h.elim ack_ne_send ack_ne_recv)
theorem amount_send (d : Bool) : (chainRd (F := F) m ρ).amount (sendCell c) 0 d = N := by dsimp only [chainRd]; exact if_pos (.inl rfl)
theorem amount_recv (d : Bool) : (chainRd (F := F) m ρ).amount (recvCell c) 0 d = N := by dsimp only [chainRd]; exact if_pos (.inr rfl)

/-- The barrier's round is as many units as the device has neighbours. -/
theorem expect_bar : (chainRd (F := F) m ρ).expect (barCell c) 0 = if c.val = 0 ∨ c.val = 31 then 1 else 2 := by
  unfold Schedule.expect Schedule.amountOf
  rw [duties_bar, Finset.sum_congr rfl fun d _ => amount_bar m ρ c d, Finset.sum_const, smul_eq_mul, Nat.mul_one]
  by_cases h0 : c.val = 0
  · rw [if_pos h0, if_pos (.inl h0)]; rfl
  · by_cases h31 : c.val = 31
    · rw [if_neg h0, if_pos h31, if_pos (.inr h31)]; rfl
    · rw [if_neg h0, if_neg h31, if_neg (fun h => h.elim h0 h31)]; rfl
theorem expect_send (h : c.val < 31) : (chainRd (F := F) m ρ).expect (sendCell c) 0 = N := by
  unfold Schedule.expect Schedule.amountOf; rw [duties_send, if_pos h, Finset.sum_singleton, amount_send]
theorem expect_recv (h : 0 < c.val) : (chainRd (F := F) m ρ).expect (recvCell c) 0 = N := by
  unfold Schedule.expect Schedule.amountOf; rw [duties_recv, if_pos h, Finset.sum_singleton, amount_recv]
theorem expect_ack (h : c.val < 31) : (chainRd (F := F) m ρ).expect (ackCell c) 0 = 1 := by
  unfold Schedule.expect Schedule.amountOf; rw [duties_ack, if_pos h, Finset.sum_singleton, amount_ack]

theorem payload_bar_true : (chainRd (F := F) m ρ).payload (barCell c) 0 true = barPay c := by dsimp only [chainRd]; rw [if_pos rfl, if_pos rfl]
theorem payload_bar_false : (chainRd (F := F) m ρ).payload (barCell c) 0 false = iprop(emp) := by
  dsimp only [chainRd]; rw [if_pos rfl]; exact if_neg Bool.false_ne_true
theorem payload_send (d : Bool) : (chainRd (F := F) m ρ).payload (sendCell c) 0 d = sendPay m ρ c := by
  dsimp only [chainRd]; rw [if_neg send_ne_bar, if_neg send_ne_recv, if_pos rfl]
theorem payload_recv (d : Bool) : (chainRd (F := F) m ρ).payload (recvCell c) 0 d = recvPay m ρ c := by
  dsimp only [chainRd]; rw [if_neg recv_ne_bar, if_pos rfl]
theorem payload_ack (d : Bool) : (chainRd (F := F) m ρ).payload (ackCell c) 0 d = iprop(emp) := by
  dsimp only [chainRd]; rw [if_neg ack_ne_bar, if_neg ack_ne_recv, if_neg ack_ne_send]

/-- A device with one after it has the barrier duty that device pays; one with a device before it, that device's. -/
theorem mem_bar_true (h : c.val < 31) : true ∈ (chainRd (F := F) m ρ).duties (barCell c) 0 := by
  rw [duties_bar]
  by_cases h0 : c.val = 0
  · rw [if_pos h0]; decide
  · rw [if_neg h0, if_neg (by omega)]; decide
theorem mem_bar_false (h : 0 < c.val) : false ∈ (chainRd (F := F) m ρ).duties (barCell c) 0 := by
  rw [duties_bar, if_neg (by omega)]
  by_cases h31 : c.val = 31
  · rw [if_pos h31]; decide
  · rw [if_neg h31]; decide

theorem rest_send (h : c.val < 31) : bigSep ((chainRd (F := F) m ρ).duties (sendCell c) 0 \ ∅) (fun d => (chainRd (F := F) m ρ).payload (sendCell c) 0 d) = sendPay m ρ c := by
  rw [Finset.sdiff_empty, duties_send, if_pos h, bigSep_singleton, payload_send]
theorem rest_recv (h : 0 < c.val) : bigSep ((chainRd (F := F) m ρ).duties (recvCell c) 0 \ ∅) (fun d => (chainRd (F := F) m ρ).payload (recvCell c) 0 d) = recvPay m ρ c := by
  rw [Finset.sdiff_empty, duties_recv, if_pos h, bigSep_singleton, payload_recv]
/-- Everything the barrier's round brings a device with one after it includes that device's landing buffer. -/
theorem all_bar (h : c.val < 31) : bigSep ((chainRd (F := F) m ρ).duties (barCell c) 0) (fun d => (chainRd (F := F) m ρ).payload (barCell c) 0 d) ⊢ barPay c :=
  (bigSep_elim (mem_bar_true m ρ c h)).trans (Entails.of_eq (payload_bar_true m ρ c))

end Sched

/-! ## What each device owes at launch, and the levels -/

/-- The transfer to the device after, -/
def oV (c : Dev nD) : CellTallies nD τ sig Unit := if c.val < 31 then tallyAt (recvCell (nxt c)) () N else 0
/-- the acknowledgement to the device before, -/
def oA (c : Dev nD) : CellTallies nD τ sig Unit := if 0 < c.val then tallyAt (ackCell (prv c)) () 1 else 0
/-- the entry signal to the device before, -/
def oP (c : Dev nD) : CellTallies nD τ sig Unit := if 0 < c.val then tallyAt (barCell (prv c)) () 1 else 0
/-- and to the device after. -/
def oN (c : Dev nD) : CellTallies nD τ sig Unit := if c.val < 31 then tallyAt (barCell (nxt c)) () 1 else 0
/-- After the entry signals. -/
def O₂ (c : Dev nD) : CellTallies nD τ sig Unit := oV c + oA c
/-- After the first. -/
def O₁ (c : Dev nD) : CellTallies nD τ sig Unit := O₂ c + oP c
/-- At launch. -/
def O₀ (c : Dev nD) : CellTallies nD τ sig Unit := O₁ c + oN c

def L (g : GSem nD τ sig) : Finset Unit := if g.1.2 = .tc then {()} else ∅
/-- Staging and send semaphores at 0, barriers at 1, receive semaphores in the order of the line, acknowledgements last. -/
def lv (g : GSem nD τ sig) (_ : Unit) : ℕ :=
  if g.2 = .reg barS then 1 else if g.2 = .dma recvS then 2 + g.1.1.val else if g.2 = .reg ackS then 100 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 + c.val := by unfold lv; rw [if_neg recv_ne_bar, if_pos rfl]
theorem lv_ack (c : Dev nD) : lv (ackCell c) () = 100 := by unfold lv; rw [if_neg ack_ne_bar, if_neg ack_ne_recv, if_pos rfl]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem oV_pos {c : Dev nD} {g : GSem nD τ sig} {u : Unit} (h : 0 < oV c g u) : c.val < 31 ∧ g = recvCell (nxt c) := by
  unfold oV at h
  by_cases hc : c.val < 31
  · rw [if_pos hc] at h; exact ⟨hc, tally_pos h⟩
  · rw [if_neg hc] at h; exact absurd h (Nat.lt_irrefl 0)
theorem oA_pos {c : Dev nD} {g : GSem nD τ sig} {u : Unit} (h : 0 < oA c g u) : g = ackCell (prv c) := by
  unfold oA at h
  by_cases hc : 0 < c.val
  · rw [if_pos hc] at h; exact tally_pos h
  · rw [if_neg hc] at h; exact absurd h (Nat.lt_irrefl 0)
theorem oP_pos {c : Dev nD} {g : GSem nD τ sig} {u : Unit} (h : 0 < oP c g u) : g = barCell (prv c) := by
  unfold oP at h
  by_cases hc : 0 < c.val
  · rw [if_pos hc] at h; exact tally_pos h
  · rw [if_neg hc] at h; exact absurd h (Nat.lt_irrefl 0)
theorem oN_pos {c : Dev nD} {g : GSem nD τ sig} {u : Unit} (h : 0 < oN c g u) : g = barCell (nxt c) := by
  unfold oN at h
  by_cases hc : c.val < 31
  · rw [if_pos hc] at h; exact tally_pos h
  · rw [if_neg hc] at h; exact absurd h (Nat.lt_irrefl 0)
theorem add_pos_cases {a b : CellTallies nD τ sig Unit} {g : GSem nD τ sig} {u : Unit} (h : 0 < (a + b) g u) : 0 < a g u ∨ 0 < b g u := by
  rw [Pi.add_apply, Finsupp.add_apply] at h; omega

/-- Waiting on a semaphore of level at most `k` is allowed when everything still owed is on tensor cores and above `k`. -/
theorem mayWait_of (c : Dev nD) (sm : SemLoc sig) (O : CellTallies nD τ sig Unit) (k : ℕ) (hk : lv ((c : Thread nD τ), sm) () ≤ k)
    (hO : ∀ g u, 0 < O g u → g.1.2 = .tc ∧ k < lv g ()) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hk)
    (fun g u hg => (hO g u hg).2)

theorem O₂_above {c : Dev nD} {g : GSem nD τ sig} {u : Unit} (h : 0 < O₂ c g u) : g.1.2 = .tc ∧ 2 + c.val < lv g () := by
  have hc : c.val < 32 := c.isLt
  rcases add_pos_cases h with h | h
  · obtain ⟨h31, rfl⟩ := oV_pos h; refine ⟨rfl, ?_⟩; rw [lv_recv, nxt_val c h31]; omega
  · rw [oA_pos h]; refine ⟨rfl, ?_⟩; rw [lv_ack]; omega

/-- A staging semaphore sits below everything owed at launch, and nothing is owed at the end. -/
theorem mayWait_stage (c : Dev nD) (q : DmaSem sig) (hq : SemLoc.dma q ≠ .dma recvS) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by unfold lv; rw [if_neg (fun h => by cases h), if_neg hq, if_neg (fun h => by cases h)]) fun g u hg => ?_
    rcases add_pos_cases hg with hg | hg
    · rcases add_pos_cases hg with hg | hg
      · have := O₂_above hg; exact ⟨this.1, by omega⟩
      · rw [oP_pos hg]; exact ⟨rfl, by rw [lv_bar]; decide⟩
    · rw [oN_pos hg]; exact ⟨rfl, by rw [lv_bar]; decide⟩
  · rw [MayWait_zero]; iintro -; iempintro
/-- At its barrier a device owes the transfer and the acknowledgement. -/
theorem mayWait_bar (c : Dev nD) : (levAts L lv : sProp 𝕄) ⊢ MayWait (c : Thread nD τ) (.reg barS) () (O₂ c) :=
  mayWait_of c _ _ 1 (by rw [lv_bar]) fun g u hg => by have := O₂_above hg; exact ⟨this.1, by omega⟩
/-- So it does while it waits for the landing. -/
theorem mayWait_recv (c : Dev nD) : (levAts L lv : sProp 𝕄) ⊢ MayWait (c : Thread nD τ) (.dma recvS) () (O₂ c) :=
  mayWait_of c _ _ (2 + c.val) (by rw [lv_recv]) fun g u hg => O₂_above hg

end Cert.KernelIdeal.Run

end
-- ==== Proof.Compute.lean ====
/-
# The local passes of the kernel

The parts of the kernel that touch only the device's own buffers: the running products within the blocks of 8 rows,
and of the block totals. Each theorem runs one printed part from named contents to named contents.
-/
module

public import proofs.«01_k».proof.Proof.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- Device `c`'s buffer `b`, whole, holding `f`. -/
abbrev pts (c : Dev nD) (b : Ref sig .tc) (f : b.ty.Contents (Elt F)) : sProp 𝕄 := (((c : Thread nD τ).loc b) ↦{fullShare} f)

/-- A device's program run to a postcondition, the device holding nothing but what it is given. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem read_x (f : CX F) : (xM : Memref sig .tc .vmem S2048x1024 .f32).view.readAt (Elt F) rX.toLoadRect f = f :=
  Memref.readAt_unit_zero (Elt F) cc0_stg0_0 hz2 _ f
omit [FloatOps F] in
theorem read_pc (f : CP F) : (pcM : Memref sig .tc .vmem S1x1024 .f32).view.readAt (Elt F) rP.toLoadRect f = f :=
  Memref.readAt_unit_zero (Elt F) cc0_scratch1 hz2 _ f
omit [FloatOps F] in
theorem read_pf (f : CP F) : (pfM : Memref sig .tc .vmem S1x1024 .f32).view.readAt (Elt F) rP.toLoadRect f = f :=
  Memref.readAt_unit_zero (Elt F) cc0_scratch0 hz2 _ f
omit [FloatOps F] in
theorem read_s (f : C3 F) : (s3M : Memref sig .tc .vmem S256x8x1024 .f32).view.readAt (Elt F) rS.toLoadRect f = f :=
  Memref.readAt_unit_zero (Elt F) cc0_scratch3 hz3 _ f
omit [FloatOps F] in
theorem read_e (f : CB F) : (ebM : Memref sig .tc .vmem S256x1024 .f32).view.readAt (Elt F) rB.toLoadRect f = f :=
  Memref.readAt_unit_zero (Elt F) cc0_scratch5 hz2 _ f
omit [FloatOps F] in
theorem write_o (f w : CX F) : ((oM : Memref sig .tc .vmem S2048x1024 .f32).access rX : View sig .tc _ _ _).write (Elt F) f w Finset.univ = w :=
  Memref.write_access_unit_zero_univ (Elt F) cc0_stg1_0 hz2 _ f w
omit [FloatOps F] in
theorem write_pc (f w : CP F) : ((pcM : Memref sig .tc .vmem S1x1024 .f32).access rP : View sig .tc _ _ _).write (Elt F) f w Finset.univ = w :=
  Memref.write_access_unit_zero_univ (Elt F) cc0_scratch1 hz2 _ f w
omit [FloatOps F] in
theorem write_sb (f w : CP F) : ((sbM : Memref sig .tc .vmem S1x1024 .f32).access rP : View sig .tc _ _ _).write (Elt F) f w Finset.univ = w :=
  Memref.write_access_unit_zero_univ (Elt F) cc0_scratch2 hz2 _ f w
omit [FloatOps F] in
theorem write_s (f w : C3 F) : ((s3M : Memref sig .tc .vmem S256x8x1024 .f32).access rS : View sig .tc _ _ _).write (Elt F) f w Finset.univ = w :=
  Memref.write_access_unit_zero_univ (Elt F) cc0_scratch3 hz3 _ f w
omit [FloatOps F] in
theorem write_b (f w : CB F) : ((btM : Memref sig .tc .vmem S256x1024 .f32).access rB : View sig .tc _ _ _).write (Elt F) f w Finset.univ = w :=
  Memref.write_access_unit_zero_univ (Elt F) cc0_scratch4 hz2 _ f w

section Steps

/-- A load at the head of a program, through a whole buffer. -/
theorem load_at (c : Dev nD) {α : Type} {Q : α → sProp 𝕄} {s : Shape} {cs : CoreSpace} {e : EltTy} (M : Memref sig .tc cs s e) {r : LoadRect s} {hl : M.view.LoadsAt r}
    {k : (r.shape.Idx → Elt F e) → Prog (TpuEff nD τ sig (Elt F) Λ₀ .tc) α} (f : Buf (Elt F) (M.view.loc (c : Thread nD τ))) :
    (M.view.loc (c : Thread nD τ) ↦{fullShare} f : sProp 𝕄)
      ⊢ iprop(((M.view.loc (c : Thread nD τ) ↦{fullShare} f) -∗ runs c (k (M.view.readAt (Elt F) r f)) Q) -∗ runs c (.op (.load M r hl) k) Q) :=
  wp_load 𝒱₀ (c : Thread nD τ) none Set.univ (m := M) (Finset.subset_univ _)
/-- A store at the head of a program, through a whole buffer. -/
theorem store_at (c : Dev nD) {α : Type} {Q : α → sProp 𝕄} {s : Shape} {cs : CoreSpace} {e : EltTy} (M : Memref sig .tc cs s e) {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} (f : Buf (Elt F) (M.view.loc (c : Thread nD τ))) :
    (M.view.loc (c : Thread nD τ) ↦{fullShare} f : sProp 𝕄)
      ⊢ iprop(((M.view.loc (c : Thread nD τ) ↦{fullShare} ((M.access r).write (Elt F) f w Finset.univ)) -∗ runs c (k ⟨⟩) Q)
        -∗ runs c (.op (.store M r w Finset.univ hx hm) k) Q) :=
  wp_store 𝒱₀ (c : Thread nD τ) none Set.univ (m := M) (r := r) (Mk := Finset.univ) (Finset.subset_univ _)
/-- The same, what the store leaves given by name. -/
theorem store_to (c : Dev nD) {α : Type} {Q : α → sProp 𝕄} {s : Shape} {cs : CoreSpace} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} (f g : Buf (Elt F) (M.view.loc (c : Thread nD τ)))
    (h : (M.access r).write (Elt F) f w Finset.univ = g) :
    (M.view.loc (c : Thread nD τ) ↦{fullShare} f : sProp 𝕄)
      ⊢ iprop(((M.view.loc (c : Thread nD τ) ↦{fullShare} g) -∗ runs c (k ⟨⟩) Q) -∗ runs c (.op (.store M r w Finset.univ hx hm) k) Q) := by
  subst h; exact store_at c M f

end Steps

section Parts
variable (c : Dev nD) (x : CX F)

/-- The second part: the passes of distance 2 and 4 within the blocks, the block totals, and their first two passes. -/
theorem runs_part2 (v25 : Vec F S256x6x1024 .f32) (fb : CB F) (Kt : Vec F S252x1024 .f32 → sProp 𝕄) :
    iprop((pts c cc0_scratch3 (s1 x) ∗ pts c cc0_scratch4 fb)
        ∗ ((pts c cc0_scratch3 (s3 x) ∗ pts c cc0_scratch4 (b2 x)) -∗ Kt (rdB H4 (b2 x))))
      ⊢ runs c (k0_part2 xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8 (k0_pay6 (rd3 h2 (s1 x)) (rd3 l2 (s1 x))) v25) Kt := by
  simp only [k0_part2_eq_skeleton]; unfold k0_part2_skel
  simp only [Prog.lift, Prog.bind_op, Prog.bind_ret, Prog.pure_eq_ret]
  iintro ⟨⟨Hs, Hb⟩, Hk⟩
  iapply (store_to c s3M (s1 x) (s2 x) rfl) $$ Hs; iintro Hs
  iapply (load_at c s3M (s2 x)) $$ Hs; iintro Hs
  iapply (load_at c s3M (s2 x)) $$ Hs; iintro Hs
  iapply (load_at c s3M (s2 x)) $$ Hs; iintro Hs
  iapply (store_to c s3M (s2 x) (s3 x) rfl) $$ Hs; iintro Hs
  iapply (load_at c s3M (s3 x)) $$ Hs; iintro Hs
  iapply (load_at c btM fb) $$ Hb; iintro Hb
  iapply (store_to c btM fb (b0 x) (write_b fb (b0 x))) $$ Hb; iintro Hb
  iapply (load_at c btM (b0 x)) $$ Hb; iintro Hb
  iapply (load_at c btM (b0 x)) $$ Hb; iintro Hb
  iapply (load_at c btM (b0 x)) $$ Hb; iintro Hb
  iapply (store_to c btM (b0 x) (b1 x) rfl) $$ Hb; iintro Hb
  iapply (load_at c btM (b1 x)) $$ Hb; iintro Hb
  iapply (load_at c btM (b1 x)) $$ Hb; iintro Hb
  iapply (load_at c btM (b1 x)) $$ Hb; iintro Hb
  iapply (store_to c btM (b1 x) (b2 x) rfl) $$ Hb; iintro Hb
  iapply (load_at c btM (b2 x)) $$ Hb; iintro Hb
  unfold runs
  rw [wp_ret]; imodintro
  iapply Hk
  isplitl [Hs] <;> iassumption

/-- The third part: the passes of distance 4 to 32 over the block totals, and the reads for distance 64. -/
theorem runs_part3 (Kt : FVec F S192x1024 .f32 → sProp 𝕄) :
    iprop(pts c cc0_scratch4 (b2 x) ∗ (pts c cc0_scratch4 (b32 x) -∗ Kt (k0_pay16 (rdB H64 (b32 x)) (rdB L64 (b32 x)))))
      ⊢ runs c (k0_part3 xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8 (rdB H4 (b2 x))) Kt := by
  simp only [k0_part3_eq_skeleton]; unfold k0_part3_skel
  simp only [Prog.lift, Prog.bind_op, Prog.bind_ret, Prog.pure_eq_ret]
  iintro ⟨Hb, Hk⟩
  iapply (load_at c btM (b2 x)) $$ Hb; iintro Hb
  iapply (load_at c btM (b2 x)) $$ Hb; iintro Hb
  iapply (store_to c btM (b2 x) (b4 x) rfl) $$ Hb; iintro Hb
  iapply (load_at c btM (b4 x)) $$ Hb; iintro Hb
  iapply (load_at c btM (b4 x)) $$ Hb; iintro Hb
  iapply (load_at c btM (b4 x)) $$ Hb; iintro Hb
  iapply (store_to c btM (b4 x) (b8 x) rfl) $$ Hb; iintro Hb
  iapply (load_at c btM (b8 x)) $$ Hb; iintro Hb
  iapply (load_at c btM (b8 x)) $$ Hb; iintro Hb
  iapply (load_at c btM (b8 x)) $$ Hb; iintro Hb
  iapply (store_to c btM (b8 x) (b16 x) rfl) $$ Hb; iintro Hb
  iapply (load_at c btM (b16 x)) $$ Hb; iintro Hb
  iapply (load_at c btM (b16 x)) $$ Hb; iintro Hb
  iapply (load_at c btM (b16 x)) $$ Hb; iintro Hb
  iapply (store_to c btM (b16 x) (b32 x) rfl) $$ Hb; iintro Hb
  iapply (load_at c btM (b32 x)) $$ Hb; iintro Hb
  iapply (load_at c btM (b32 x)) $$ Hb; iintro Hb
  iapply (load_at c btM (b32 x)) $$ Hb; iintro Hb
  unfold runs
  rw [wp_ret]; imodintro
  iapply Hk
  iexact Hb

end Parts

end Cert.KernelIdeal.Run

end
-- ==== Proof.Steps.lean ====
/-
# The steps between devices

Each theorem runs one conditional stretch of the kernel — a signal, a wait, or the transfer, done only when there is a
device on that side — from the resources it needs to those it leaves, whatever the device's place in the line.
-/
module

public import proofs.«01_k».proof.Proof.Compute

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 4 → ℕ)

/-- A resource held only when `p`. -/
def whenP (p : Prop) [Decidable p] (P : sProp 𝕄) : sProp 𝕄 := if p then P else iprop(emp)
omit [FloatOps F] in
theorem whenP_pos {p : Prop} [Decidable p] (h : p) (P : sProp 𝕄) : whenP p P = P := if_pos h
omit [FloatOps F] in
theorem whenP_neg {p : Prop} [Decidable p] (h : ¬p) (P : sProp 𝕄) : whenP p P = iprop(emp) := if_neg h

/-- Device `c` owes `O`, having waited on some semaphores. -/
def owing (c : Dev nD) (O : CellTallies nD τ sig Unit) : sProp 𝕄 := iprop(∃ W, owes (c : Thread nD τ) O W)

section
variable (c : Dev nD)

/-- The entry signal to the device after, if there is one. -/
theorem step_next {α : Type} (k : Prog (TpuEff nD τ sig (Elt F) Λ₀ .tc) α) (Q : α → sProp 𝕄) :
    iprop(cellInv ER (chainRd m ρ) (K (nxt c, 0)) (barCell (nxt c)) ∗ reached ER (barCell (nxt c)) 0
        ∗ dutyTok ER (barCell (nxt c)) 0 false ∗ owing c (O₀ c))
      ⊢ iprop((owing c (O₁ c) -∗ runs c k Q)
        -∗ runs c (if h : k0_cond1 c = 1#1 then
              .op (.semSignal ((⟨k0_dev1 c, k0_dev1_lt c h⟩ : Dev nD), Proc.tc) barS (1#32 : BitVec 32).toInt) (fun _ => k)
            else k) Q) := by
  iintro ⟨#HI, #HR, Ht, HO⟩ Hk
  unfold owing
  icases HO with ⟨%W, HO⟩
  by_cases h : k0_cond1 c = 1#1
  · have hc : c.val < 31 := (cond1_iff c).mp h
    rw [dif_pos h, dev1_eq c h]
    iapply (Rounds.wp_signal 𝒱₀ ER (chainRd m ρ) (c : Thread nD τ) none (dst := (nxt c : Thread nD τ)) (κ := K (nxt c, 0))
        (d := false) (mem_bar_false m ρ (nxt c) (by rw [nxt_val c hc]; exact Nat.succ_pos _)) ((amount_bar m ρ (nxt c) false).trans (by decide)) () (O₁ c)
        (O₀ := O₀ c) (by unfold O₀ oN; rw [if_pos hc]; rfl)) $$ [HO Ht]
    · isplitr; · iexact HI
      isplitl [HO]; · iexact HO
      isplitl [Ht]; · iexact Ht
      isplitr; · rw [payload_bar_false]; iempintro
      iexact HR
    iintro HO
    iapply Hk
    iexists W; iexact HO
  · have hc : ¬c.val < 31 := fun hc => h ((cond1_iff c).mpr hc)
    rw [dif_neg h]
    iapply Hk
    iexists W
    rw [show O₀ c = O₁ c from by unfold O₀ oN; rw [if_neg hc, add_zero]]
    iexact HO

/-- The entry signal to the device before, if there is one: it hands over the landing buffer. -/
theorem step_prev {α : Type} (f : CP F) (k : Prog (TpuEff nD τ sig (Elt F) Λ₀ .tc) α) (Q : α → sProp 𝕄) :
    iprop(cellInv ER (chainRd m ρ) (K (prv c, 0)) (barCell (prv c)) ∗ reached ER (barCell (prv c)) 0 ∗ reached ER (recvCell c) 0
        ∗ dutyTok ER (barCell (prv c)) 0 true ∗ owing c (O₁ c) ∗ pfPts c f)
      ⊢ iprop(((owing c (O₂ c) ∗ whenP (c.val = 0) (pfPts c f)) -∗ runs c k Q)
        -∗ runs c (if h : k0_cond2 c = 1#1 then
              .op (.semSignal ((⟨k0_dev2 c, k0_dev2_lt c h⟩ : Dev nD), Proc.tc) barS (1#32 : BitVec 32).toInt) (fun _ => k)
            else k) Q) := by
  iintro ⟨#HI, #HR, #HV, Ht, HO, Hpf⟩ Hk
  unfold owing
  icases HO with ⟨%W, HO⟩
  by_cases h : k0_cond2 c = 1#1
  · have hc : 0 < c.val := (cond2_iff c).mp h
    rw [dif_pos h, dev2_eq c h, whenP_neg (by omega : ¬c.val = 0)]
    iapply (Rounds.wp_signal 𝒱₀ ER (chainRd m ρ) (c : Thread nD τ) none (dst := (prv c : Thread nD τ)) (κ := K (prv c, 0))
        (d := true) (mem_bar_true m ρ (prv c) (by have : c.val < 32 := c.isLt; rw [prv_val c hc]; omega)) ((amount_bar m ρ (prv c) true).trans (by decide)) () (O₂ c)
        (O₀ := O₁ c) (by unfold O₁ oP; rw [if_pos hc]; rfl)) $$ [HO Ht Hpf]
    · isplitr; · iexact HI
      isplitl [HO]; · iexact HO
      isplitl [Ht]; · iexact Ht
      isplitl [Hpf]
      · rw [payload_bar_true]; unfold barPay; rw [nxt_prv]
        isplitl [Hpf]; · iexists f; iexact Hpf
        iexact HV
      iexact HR
    iintro HO
    iapply Hk
    isplitl [HO]; · iexists W; iexact HO
    iempintro
  · have hc : ¬0 < c.val := fun hc => h ((cond2_iff c).mpr hc)
    rw [dif_neg h, whenP_pos (by omega : c.val = 0)]
    iapply Hk
    isplitl [HO]
    · iexists W
      rw [show O₁ c = O₂ c from by unfold O₁ oP; rw [if_neg hc, add_zero]]
      iexact HO
    iexact Hpf

/-- The waits on the barrier, one for each neighbour: the landing buffer of the device after comes with them. -/
theorem step_bar {α : Type} (k : Prog (TpuEff nD τ sig (Elt F) Λ₀ .tc) α) (Q : α → sProp 𝕄) :
    iprop(cellInv ER (chainRd m ρ) (K (c, 0)) (barCell c) ∗ levAts L lv
        ∗ whenP (c.val < 31) (cred (tallyAt (barCell c) () 1)) ∗ whenP (0 < c.val) (cred (tallyAt (barCell c) () 1))
        ∗ owing c (O₂ c) ∗ atPos ER (barCell c) 0 ∅ 0)
      ⊢ iprop(((owing c (O₂ c) ∗ semVal (barCell c) 0 ∗ whenP (c.val < 31) (barPay c)) -∗ runs c k Q)
        -∗ runs c (if h : Scalar.cmpi .ne (Scalar.extui (Scalar.cmpi .slt (posW c) 31#32) : BitVec 32) 0#32 = 1#1 then
              .op (.semWait barS (1#32 : BitVec 32).toInt) (fun _ =>
                if h : Scalar.cmpi .ne (Scalar.extui (Scalar.cmpi .sgt (posW c) 0#32) : BitVec 32) 0#32 = 1#1 then
                  .op (.semWait barS (1#32 : BitVec 32).toInt) (fun _ => k)
                else k)
            else
              if h : Scalar.cmpi .ne (Scalar.extui (Scalar.cmpi .sgt (posW c) 0#32) : BitVec 32) 0#32 = 1#1 then
                .op (.semWait barS (1#32 : BitVec 32).toInt) (fun _ => k)
              else k) Q) := by
  have h32 : c.val < 32 := c.isLt
  unfold owing
  by_cases hu : c.val < 31
  · rw [dif_pos ((condUp_iff c).mpr hu), whenP_pos hu, whenP_pos hu]
    by_cases hd : 0 < c.val
    · rw [dif_pos ((condDn_iff c).mpr hd), whenP_pos hd]
      iintro ⟨#HI, #Hlev, Hc1, Hc2, ⟨%W, HO⟩, Hat⟩ Hk
      iapply (Rounds.wp_wait 𝒱₀ ER (chainRd m ρ) (c : Thread nD τ) none (κ := K (c, 0))
          (wpE_semWait_eq 𝒱₀ (c : Thread nD τ) none Set.univ) (Set.mem_univ _) (cr := Finsupp.single () 1) (O := O₂ c) (W := W) {(SemLoc.reg barS, ())} (R := 0) (m := 0) (T := ∅)
          (by rw [Util.total_single]; rfl) (image_single_subset _ _ _)) $$ [Hc1 HO Hat]
      · isplitr; · iexact HI
        isplitl [Hc1]; · iexact Hc1
        isplitl [HO]; · iexact HO
        isplitr; · iapply (mayWait_bar c); iexact Hlev
        iexact Hat
      iintro %S ⟨%hS, HO, Hat, Hp1⟩
      iapply (Rounds.wp_wait_rest_token 𝒱₀ ER (chainRd m ρ) (c : Thread nD τ) none (κ := K (c, 0))
          (wpE_semWait_eq 𝒱₀ (c : Thread nD τ) none Set.univ) (Set.mem_univ _) () (O := O₂ c) (W := W ∪ {(SemLoc.reg barS, ())}) (R := 0) (m := 1) (T := S)
          (by rw [expect_bar, if_neg (by omega)]; decide)) $$ [Hc2 HO Hat]
      · isplitr; · iexact HI
        isplitl [Hc2]; · iexact Hc2
        isplitl [HO]; · iexact HO
        isplitr; · iapply (mayWait_bar c); iexact Hlev
        iexact Hat
      iintro ⟨HO, Hat, -, Hp2⟩
      imod (Rounds.cell_close ER (chainRd m ρ) (Set.mem_univ (K (c, 0))) (fun h => h) (R := 0 + 1) (duties_later m ρ (barCell c))) $$ [Hat] with Hz
      · isplitr; · iexact HI
        iexact Hat
      iapply Hk
      isplitl [HO]; · iexists _; iexact HO
      isplitl [Hz]; · iexact Hz
      have hj : iprop(bigSep S (fun d => (chainRd (F := F) m ρ).payload (barCell c) 0 d)
          ∗ bigSep ((chainRd (F := F) m ρ).duties (barCell c) 0 \ S) (fun d => (chainRd (F := F) m ρ).payload (barCell c) 0 d)) ⊢ barPay c :=
        (Entails.of_eq (bigSep_sdiff_split hS.2.1).symm).trans (all_bar m ρ c hu)
      iapply hj
      isplitl [Hp1]
      · rw [Finset.sdiff_empty]; iexact Hp1
      iexact Hp2
    · rw [dif_neg (fun h => hd ((condDn_iff c).mp h)), whenP_neg hd]
      iintro ⟨#HI, #Hlev, Hc1, -, ⟨%W, HO⟩, Hat⟩ Hk
      iapply (Rounds.wp_wait_rest_token 𝒱₀ ER (chainRd m ρ) (c : Thread nD τ) none (κ := K (c, 0))
          (wpE_semWait_eq 𝒱₀ (c : Thread nD τ) none Set.univ) (Set.mem_univ _) () (O := O₂ c) (W := W) (R := 0) (m := 0) (T := ∅)
          (by rw [expect_bar, if_pos (.inl (by omega))]; decide)) $$ [Hc1 HO Hat]
      · isplitr; · iexact HI
        isplitl [Hc1]; · iexact Hc1
        isplitl [HO]; · iexact HO
        isplitr; · iapply (mayWait_bar c); iexact Hlev
        iexact Hat
      iintro ⟨HO, Hat, -, Hp⟩
      imod (Rounds.cell_close ER (chainRd m ρ) (Set.mem_univ (K (c, 0))) (fun h => h) (R := 0 + 1) (duties_later m ρ (barCell c))) $$ [Hat] with Hz
      · isplitr; · iexact HI
        iexact Hat
      iapply Hk
      isplitl [HO]; · iexists _; iexact HO
      isplitl [Hz]; · iexact Hz
      rw [Finset.sdiff_empty]
      iapply (all_bar m ρ c hu)
      iexact Hp
  · have hd : 0 < c.val := by omega
    rw [dif_neg (fun h => hu ((condUp_iff c).mp h)), whenP_neg hu, whenP_neg hu, dif_pos ((condDn_iff c).mpr hd), whenP_pos hd]
    iintro ⟨#HI, #Hlev, -, Hc2, ⟨%W, HO⟩, Hat⟩ Hk
    iapply (Rounds.wp_wait_rest_token 𝒱₀ ER (chainRd m ρ) (c : Thread nD τ) none (κ := K (c, 0))
        (wpE_semWait_eq 𝒱₀ (c : Thread nD τ) none Set.univ) (Set.mem_univ _) () (O := O₂ c) (W := W) (R := 0) (m := 0) (T := ∅)
        (by rw [expect_bar, if_pos (.inr (by omega))]; decide)) $$ [Hc2 HO Hat]
    · isplitr; · iexact HI
      isplitl [Hc2]; · iexact Hc2
      isplitl [HO]; · iexact HO
      isplitr; · iapply (mayWait_bar c); iexact Hlev
      iexact Hat
    iintro ⟨HO, Hat, -, -⟩
    imod (Rounds.cell_close ER (chainRd m ρ) (Set.mem_univ (K (c, 0))) (fun h => h) (R := 0 + 1) (duties_later m ρ (barCell c))) $$ [Hat] with Hz
    · isplitr; · iexact HI
      iexact Hat
    iapply Hk
    isplitl [HO]; · iexists _; iexact HO
    isplitl [Hz]; · iexact Hz
    iempintro

/-- The landing of the product of everything before, if there is a device before, copied and acknowledged. -/
theorem step_recv {α : Type} {hs : (sbM : Memref sig .tc .vmem S1x1024 .f32).view.WordExact} {hd : (pfM : Memref sig .tc .vmem S1x1024 .f32).view.WordExact}
    {hl : (pfM : Memref sig .tc .vmem S1x1024 .f32).view.LoadsAt rP.toLoadRect} {hl' : (pcM : Memref sig .tc .vmem S1x1024 .f32).view.LoadsAt rP.toLoadRect}
    {hx : ((pcM : Memref sig .tc .vmem S1x1024 .f32).access rP).Stores Finset.univ}
    {hm : (Finset.univ : Finset rP.shape.Idx) = Finset.univ ∨ ∀ a, rP.stride a = 1}
    (f : CP F) (k : Prog (TpuEff nD τ sig (Elt F) Λ₀ .tc) α) (Q : α → sProp 𝕄) :
    iprop(cellInv ER (chainRd m ρ) (K (c, 2)) (recvCell c) ∗ cellInv ER (chainRd m ρ) (K (prv c, 3)) (ackCell (prv c)) ∗ levAts L lv
        ∗ reached ER (ackCell (prv c)) 0
        ∗ dutyTok ER (ackCell (prv c)) 0 false ∗ whenP (0 < c.val) (cred (tallyAt (recvCell c) () N))
        ∗ owing c (O₂ c) ∗ atPos ER (recvCell c) 0 ∅ 0 ∗ whenP (c.val = 0) (pfPts c f) ∗ pts c cc0_scratch1 k0_pay18)
      ⊢ iprop(((owing c (oV c) ∗ semVal (recvCell c) 0 ∗ (∃ f, pfPts c f) ∗ pts c cc0_scratch1 (pcv m ρ c)) -∗ runs c k Q)
        -∗ runs c (if h : k0_cond5 c = 1#1 then
              .op (.waitDma2 recvS sbM pfM hs hd) (fun _ => .op (.load pfM rP.toLoadRect hl) (fun v => .op (.load pcM rP.toLoadRect hl') (fun _ =>
                .op (.store pcM rP (k0_pay19 v) Finset.univ hx hm) (fun _ =>
                  .op (.semSignal ((⟨k0_dev3 c, k0_dev3_lt c h⟩ : Dev nD), Proc.tc) ackS (1#32 : BitVec 32).toInt) (fun _ => k)))))
            else k) Q) := by
  have h32 : c.val < 32 := c.isLt
  unfold owing
  by_cases h : k0_cond5 c = 1#1
  · have hc : 0 < c.val := (cond5_iff c).mp h
    rw [dif_pos h, dev3_eq c h, whenP_pos hc, whenP_neg (by omega : ¬c.val = 0)]
    iintro ⟨#HI, #HIA, #Hlev, #HR, Ht, Hcr, ⟨%W, HO⟩, Hat, -, Hpc⟩ Hk
    iapply (Rounds.wp_wait_rest_token 𝒱₀ ER (chainRd m ρ) (c : Thread nD τ) none (κ := K (c, 2))
        (wpE_waitDma2_eq 𝒱₀ (c : Thread nD τ) none Set.univ) (Set.mem_univ _) () (O := O₂ c) (W := W) (R := 0) (m := 0) (T := ∅)
        (by rw [Nat.zero_add, expect_recv m ρ c hc])) $$ [Hcr HO Hat]
    · isplitr; · iexact HI
      isplitl [Hcr]; · iexact Hcr
      isplitl [HO]; · iexact HO
      isplitr; · iapply (mayWait_recv c); iexact Hlev
      iexact Hat
    iintro ⟨HO, Hat, -, Hp⟩
    ihave Hp := (Entails.of_eq (rest_recv m ρ c hc)) $$ Hp
    imod (Rounds.cell_close ER (chainRd m ρ) (Set.mem_univ (K (c, 2))) (fun h => h) (R := 0 + 1) (duties_later m ρ (recvCell c))) $$ [Hat] with Hz
    · isplitr; · iexact HI
      iexact Hat
    ihave Hp := (Entails.of_eq (show recvPay m ρ c = pts c cc0_scratch0 (sbv m ρ (prv c)) from pfPts_eq c _)) $$ Hp
    iapply (load_at c pfM (sbv m ρ (prv c))) $$ Hp; iintro Hp
    iapply (load_at c pcM (k0_pay18 (F := F))) $$ Hpc; iintro Hpc
    rw [read_pf]
    iapply (store_to c pcM (k0_pay18 (F := F)) (pcv m ρ c) ((write_pc _ _).trans (pcv_later m ρ c hc).symm)) $$ Hpc; iintro Hpc
    iapply (Rounds.wp_signal 𝒱₀ ER (chainRd m ρ) (c : Thread nD τ) none (dst := (prv c : Thread nD τ)) (κ := K (prv c, 3))
        (d := false) (by rw [duties_ack, if_pos (by rw [prv_val c hc]; omega)]; exact Finset.mem_singleton_self _) ((amount_ack m ρ (prv c) false).trans (by decide)) () (oV c)
        (O₀ := O₂ c) (by unfold O₂ oA; rw [if_pos hc]; rfl)) $$ [HO Ht]
    · isplitr; · iexact HIA
      isplitl [HO]; · iexact HO
      isplitl [Ht]; · iexact Ht
      isplitr; · rw [payload_ack]; iempintro
      iexact HR
    iintro HO
    iapply Hk
    isplitl [HO]; · iexists _; iexact HO
    isplitl [Hz]; · iexact Hz
    isplitl [Hp]; · iexists (sbv m ρ (prv c)); rw [pfPts_eq]; iexact Hp
    iexact Hpc
  · have hc : ¬0 < c.val := fun hc => h ((cond5_iff c).mpr hc)
    have h0 : c.val = 0 := by omega
    rw [dif_neg h, whenP_neg hc, whenP_pos h0, pcv_first m ρ c h0]
    iintro ⟨#HI, #HIA, #Hlev, #HR, Ht, -, ⟨%W, HO⟩, Hat, Hpf, Hpc⟩ Hk
    imod (Rounds.cell_close ER (chainRd m ρ) (Set.mem_univ (K (c, 2))) (fun h => h) (R := 0) (fun r _ => by
      rcases r with _ | r
      · rw [duties_recv, if_neg hc]
      · exact duties_later m ρ (recvCell c) _ (Nat.succ_pos _))) $$ [Hat] with Hz
    · isplitr; · iexact HI
      iexact Hat
    iapply Hk
    isplitl [HO]
    · iexists W
      rw [show O₂ c = oV c from by unfold O₂ oA; rw [if_neg hc, add_zero]]
      iexact HO
    isplitl [Hz]; · iexact Hz
    isplitl [Hpf]; · iexists f; iexact Hpf
    iexact Hpc

/-- The transfer to the device after, if there is one. -/
theorem step_send {α : Type} {hs : (sbM : Memref sig .tc .vmem S1x1024 .f32).view.WordExact} {hd : (pfM : Memref sig .tc .vmem S1x1024 .f32).view.WordExact}
    (k : Prog (TpuEff nD τ sig (Elt F) Λ₀ .tc) α) (Q : α → sProp 𝕄) :
    iprop(cellInv ER (chainRd m ρ) (K (c, 1)) (sendCell c) ∗ cellInv ER (chainRd m ρ) (K (nxt c, 2)) (recvCell (nxt c))
        ∗ reached ER (sendCell c) 0 ∗ dutyTok ER (sendCell c) 0 false ∗ dutyTok ER (recvCell (nxt c)) 0 false
        ∗ whenP (c.val < 31) (barPay c) ∗ owing c (oV c) ∗ sbPts c (sbv m ρ c))
      ⊢ iprop(((owing c 0 ∗ whenP (c.val < 31) (cred (tallyAt (sendCell c) () N)) ∗ whenP (c.val = 31) (sbPts c (sbv m ρ c))) -∗ runs c k Q)
        -∗ runs c (if h : k0_cond6 c = 1#1 then
              .op (.enqueueDma sbM (.remote (Dev.tc (⟨k0_dev4 c, k0_dev4_lt c h⟩ : Dev nD)) pfM (.dma sendS)) (.dma recvS) hs hd ⟨⟨rfl, Or.inl rfl⟩, trivial⟩) (fun _ => k)
            else k) Q) := by
  have h32 : c.val < 32 := c.isLt
  unfold owing
  by_cases h : k0_cond6 c = 1#1
  · have hc : c.val < 31 := (cond6_iff c).mp h
    rw [dif_pos h, dev4_eq c h, whenP_pos hc, whenP_pos hc, whenP_neg (by omega : ¬c.val = 31)]
    unfold barPay sbPts pfPts
    iintro ⟨#HIS, #HIV, #HRS, HtS, HtV, ⟨⟨%fn, Hpf⟩, #HRV⟩, ⟨%W, HO⟩, Hsb⟩ Hk
    iapply (Rounds.wp_send_pointsTo 𝒱₀ ER (chainRd m ρ) (c : Thread nD τ) none (κ₁ := K (c, 1)) (κ₂ := K (nxt c, 2))
      (r₁ := 0) (r₂ := 0) (d₁ := false) (d₂ := false) (fd := fn)
      (by rw [duties_send, if_pos hc]; exact Finset.mem_singleton_self _)
      (by rw [duties_recv, if_pos (by rw [nxt_val c hc]; exact Nat.succ_pos _)]; exact Finset.mem_singleton_self _)
      () () N rfl (amount_send m ρ c false) (amount_recv m ρ (nxt c) false) (O₀ := oV c) 0 (by unfold oV; rw [if_pos hc, zero_add]) (W := W)
      (by rw [payload_send]; exact BI.Entails.refl _)
      (by rw [payload_recv]; unfold recvPay pfPts; rw [landed_eq, prv_nxt])) $$ [Hsb Hpf HO HtS HtV]
    · isplitr; · iexact HIS
      isplitr; · iexact HIV
      isplitl [Hsb]; · iexact Hsb
      isplitl [Hpf]; · iexact Hpf
      isplitl [HO]; · iexact HO
      isplitl [HtS]; · iexact HtS
      isplitr; · iexact HRS
      isplitl [HtV]; · iexact HtV
      iexact HRV
    iintro ⟨HcS, HO⟩
    iapply Hk
    isplitl [HO]; · iexists W; iexact HO
    isplitl [HcS]; · iexact HcS
    iempintro
  · have hc : ¬c.val < 31 := fun hc => h ((cond6_iff c).mpr hc)
    rw [dif_neg h, whenP_neg hc, whenP_neg hc, whenP_pos (by omega : c.val = 31)]
    iintro ⟨#HIS, #HIV, #HRS, HtS, HtV, -, ⟨%W, HO⟩, Hsb⟩ Hk
    iapply Hk
    isplitl [HO]
    · iexists W
      rw [show oV c = 0 from by unfold oV; rw [if_neg hc]]
      iexact HO
    isplitr; · iempintro
    iexact Hsb

/-- At the end, the sent buffer back and the acknowledgement, if there is a device after. -/
theorem step_end {α : Type} {hs : (pfM : Memref sig .tc .vmem S1x1024 .f32).view.WordExact} {hd : (sbM : Memref sig .tc .vmem S1x1024 .f32).view.WordExact}
    (k : Prog (TpuEff nD τ sig (Elt F) Λ₀ .tc) α) (Q : α → sProp 𝕄) :
    iprop(cellInv ER (chainRd m ρ) (K (c, 1)) (sendCell c) ∗ cellInv ER (chainRd m ρ) (K (c, 3)) (ackCell c)
        ∗ atPos ER (sendCell c) 0 ∅ 0 ∗ atPos ER (ackCell c) 0 ∅ 0 ∗ whenP (c.val < 31) (cred (tallyAt (ackCell c) () 1))
        ∗ owing c 0 ∗ whenP (c.val < 31) (cred (tallyAt (sendCell c) () N)) ∗ whenP (c.val = 31) (sbPts c (sbv m ρ c)))
      ⊢ iprop(((owing c 0 ∗ semVal (sendCell c) 0 ∗ semVal (ackCell c) 0 ∗ sbPts c (sbv m ρ c)) -∗ runs c k Q)
        -∗ runs c (if h : Scalar.cmpi .ne (Scalar.extui (Scalar.cmpi .slt (posW c) 31#32) : BitVec 32) 0#32 = 1#1 then
              .op (.waitDma2 sendS pfM sbM hs hd) (fun _ => .op (.semWait ackS (1#32 : BitVec 32).toInt) (fun _ => k))
            else k) Q) := by
  have h32 : c.val < 32 := c.isLt
  unfold owing
  by_cases hc : c.val < 31
  · rw [dif_pos ((condUp_iff c).mpr hc), whenP_pos hc, whenP_pos hc, whenP_neg (by omega : ¬c.val = 31)]
    iintro ⟨#HIS, #HIA, HatS, HatA, HcA, ⟨%W, HO⟩, HcS, -⟩ Hk
    iapply (Rounds.wp_wait_rest_token 𝒱₀ ER (chainRd m ρ) (c : Thread nD τ) none (κ := K (c, 1))
        (wpE_waitDma2_eq 𝒱₀ (c : Thread nD τ) none Set.univ) (Set.mem_univ _) () (O := 0) (W := W) (R := 0) (m := 0) (T := ∅)
        (by rw [Nat.zero_add, expect_send m ρ c hc])) $$ [HcS HO HatS]
    · isplitr; · iexact HIS
      isplitl [HcS]; · iexact HcS
      isplitl [HO]; · iexact HO
      isplitr; · rw [MayWait_zero]; iempintro
      iexact HatS
    iintro ⟨HO, HatS, -, Hp⟩
    ihave Hp := (Entails.of_eq (rest_send m ρ c hc)) $$ Hp
    iapply (Rounds.wp_wait_rest_token 𝒱₀ ER (chainRd m ρ) (c : Thread nD τ) none (κ := K (c, 3))
        (wpE_semWait_eq 𝒱₀ (c : Thread nD τ) none Set.univ) (Set.mem_univ _) () (O := 0) (W := insert (SemLoc.dma sendS, ()) W) (R := 0) (m := 0) (T := ∅)
        (by rw [expect_ack m ρ c hc]; decide)) $$ [HcA HO HatA]
    · isplitr; · iexact HIA
      isplitl [HcA]; · iexact HcA
      isplitl [HO]; · iexact HO
      isplitr; · rw [MayWait_zero]; iempintro
      iexact HatA
    iintro ⟨HO, HatA, -, -⟩
    imod (Rounds.cell_close ER (chainRd m ρ) (Set.mem_univ (K (c, 1))) (fun h => h) (R := 0 + 1) (duties_later m ρ (sendCell c))) $$ [HatS] with HzS
    · isplitr; · iexact HIS
      iexact HatS
    imod (Rounds.cell_close ER (chainRd m ρ) (Set.mem_univ (K (c, 3))) (fun h => h) (R := 0 + 1) (duties_later m ρ (ackCell c))) $$ [HatA] with HzA
    · isplitr; · iexact HIA
      iexact HatA
    iapply Hk
    isplitl [HO]; · iexists _; iexact HO
    isplitl [HzS]; · iexact HzS
    isplitl [HzA]; · iexact HzA
    unfold sendPay; iexact Hp
  · rw [dif_neg (fun h => hc ((condUp_iff c).mp h)), whenP_neg hc, whenP_neg hc, whenP_pos (by omega : c.val = 31)]
    iintro ⟨#HIS, #HIA, HatS, HatA, -, ⟨%W, HO⟩, -, Hsb⟩ Hk
    imod (Rounds.cell_close ER (chainRd m ρ) (Set.mem_univ (K (c, 1))) (fun h => h) (R := 0) (fun r _ => by
      rcases r with _ | r
      · rw [duties_send, if_neg hc]
      · exact duties_later m ρ (sendCell c) _ (Nat.succ_pos _))) $$ [HatS] with HzS
    · isplitr; · iexact HIS
      iexact HatS
    imod (Rounds.cell_close ER (chainRd m ρ) (Set.mem_univ (K (c, 3))) (fun h => h) (R := 0) (fun r _ => by
      rcases r with _ | r
      · rw [duties_ack, if_neg hc]
      · exact duties_later m ρ (ackCell c) _ (Nat.succ_pos _))) $$ [HatA] with HzA
    · isplitr; · iexact HIA
      iexact HatA
    iapply Hk
    isplitl [HO]; · iexists W; iexact HO
    isplitl [HzS]; · iexact HzS
    isplitl [HzA]; · iexact HzA
    iexact Hsb

end

end Cert.KernelIdeal.Run

end
-- ==== Proof.Body.lean ====
/-
# The kernel's body, run once

From what a device holds when its kernel starts — its block staged, its scratch buffers at any contents, its
places in the protocol — to what it holds at the end: the result staged, every semaphore back at zero.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 4 → ℕ)

/-! ## What a device starts from -/

/-- The protocol's invariants that device `c` opens: its own four, its neighbours' barriers, the receive semaphore of the
    device after and the acknowledgement of the device before. -/
def invs (c : Dev nD) : sProp 𝕄 :=
  iprop(cellInv ER (chainRd m ρ) (K (c, 0)) (barCell c) ∗ cellInv ER (chainRd m ρ) (K (c, 1)) (sendCell c)
    ∗ cellInv ER (chainRd m ρ) (K (c, 2)) (recvCell c) ∗ cellInv ER (chainRd m ρ) (K (c, 3)) (ackCell c)
    ∗ cellInv ER (chainRd m ρ) (K (nxt c, 0)) (barCell (nxt c)) ∗ cellInv ER (chainRd m ρ) (K (prv c, 0)) (barCell (prv c))
    ∗ cellInv ER (chainRd m ρ) (K (nxt c, 2)) (recvCell (nxt c)) ∗ cellInv ER (chainRd m ρ) (K (prv c, 3)) (ackCell (prv c)))
/-- That the semaphores it pays into, and its own receive semaphore, are ready. -/
def marks (c : Dev nD) : sProp 𝕄 :=
  iprop(reached ER (barCell (nxt c)) 0 ∗ reached ER (barCell (prv c)) 0 ∗ reached ER (recvCell c) 0
    ∗ reached ER (sendCell c) 0 ∗ reached ER (ackCell (prv c)) 0)

instance invs_persistent (c : Dev nD) : BI.Persistent (invs m ρ K c) := by unfold invs; infer_instance
omit [FloatOps F] in
instance marks_persistent (c : Dev nD) : BI.Persistent (marks (F := F) c) := by unfold marks; infer_instance

/-- Its places in the protocol: the positions of its four semaphores and the five duties it pays. -/
def places (c : Dev nD) : sProp 𝕄 :=
  iprop((atPos ER (barCell c) 0 ∅ 0 ∗ atPos ER (sendCell c) 0 ∅ 0 ∗ atPos ER (recvCell c) 0 ∅ 0 ∗ atPos ER (ackCell c) 0 ∅ 0)
    ∗ dutyTok ER (barCell (nxt c)) 0 false ∗ dutyTok ER (barCell (prv c)) 0 true ∗ dutyTok ER (recvCell (nxt c)) 0 false
    ∗ dutyTok ER (sendCell c) 0 false ∗ dutyTok ER (ackCell (prv c)) 0 false)
/-- All of that. -/
def ghost (c : Dev nD) : sProp 𝕄 := iprop(invs m ρ K c ∗ marks c ∗ places c)
/-- The credits it will wait with. -/
def credsOf (c : Dev nD) : sProp 𝕄 :=
  iprop(whenP (c.val < 31) (cred (tallyAt (barCell c) () 1)) ∗ whenP (0 < c.val) (cred (tallyAt (barCell c) () 1))
    ∗ whenP (0 < c.val) (cred (tallyAt (recvCell c) () N)) ∗ whenP (c.val < 31) (cred (tallyAt (ackCell c) () 1)))
/-- Its six scratch buffers, at any contents. -/
def scrAll (c : Dev nD) : sProp 𝕄 :=
  iprop((∃ f, pts (F := F) c cc0_scratch0 f) ∗ (∃ f, pts (F := F) c cc0_scratch1 f) ∗ (∃ f, pts (F := F) c cc0_scratch2 f)
    ∗ (∃ f, pts (F := F) c cc0_scratch3 f) ∗ (∃ f, pts (F := F) c cc0_scratch4 f) ∗ ∃ f, pts (F := F) c cc0_scratch5 f)

/-- What the protocol gives a device, under some names for its invariants. -/
def start (c : Dev nD) : sProp 𝕄 := iprop((∃ K, ghost m ρ K c) ∗ credsOf c ∗ levAts L lv)
/-- What the body starts from, -/
def Φ₀ (c : Dev nD) : sProp 𝕄 := iprop(start m ρ c ∗ scrAll c)
/-- and what it ends with. -/
def Φ₁ (c : Dev nD) : sProp 𝕄 :=
  iprop(scrAll (F := F) c ∗ semVal (sendCell c) 0 ∗ semVal (recvCell c) 0 ∗ semVal (ackCell c) 0 ∗ semVal (barCell c) 0)

/-! ## The parts with steps between devices -/

section Parts
variable (c : Dev nD) (x : CX F)

/-- The first part: both entry signals, the block laid out in blocks of 8 rows, and the pass of distance 1. -/
theorem runs_part1 (f : CP F) (f3 : C3 F)
    (Kt : (Σ' (_ : Dev nD) (_ : BitVec 32) (_ : Sems sig S_) (_ : FVec F S256x6x1024 .f32), Vec F S256x6x1024 .f32) → sProp 𝕄) :
    iprop((invs m ρ K c ∗ marks c ∗ dutyTok ER (barCell (nxt c)) 0 false ∗ dutyTok ER (barCell (prv c)) 0 true ∗ owing c (O₀ c) ∗ pfPts c f
          ∗ pts c cc0_stg0_0 x ∗ pts c cc0_scratch3 f3)
        ∗ ((owing c (O₂ c) ∗ whenP (c.val = 0) (pfPts c f) ∗ pts c cc0_stg0_0 x ∗ pts c cc0_scratch3 (s1 x))
          -∗ Kt ⟨c, posW c, SemArray.scalar (sig.barrier 0 rfl), k0_pay6 (rd3 h2 (s1 x)) (rd3 l2 (s1 x)), rd3 h2 (s1 x)⟩))
      ⊢ runs c (k0_part1 xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8) Kt := by
  simp only [k0_part1_eq_skeleton]; unfold k0_part1_skel
  simp only [semSignalWord, semWaitWord, Prog.lift, Prog.bind_op, Prog.bind_ret, Prog.pure_eq_ret, wp_deviceId]
  unfold invs marks
  iintro ⟨⟨⟨#HIB, #HIS, #HIV, #HIA, #HIBN, #HIBP, #HIVN, #HIAP⟩, ⟨#HRN, #HRP, #HRV, #HRS, #HRA⟩, HtN, HtP, HO, Hpf, Hx, Hs⟩, Hk⟩
  iapply (step_next m ρ K c _ _) $$ [HtN HO]
  · isplitr; · iexact HIBN
    isplitr; · iexact HRN
    isplitl [HtN]; · iexact HtN
    iexact HO
  iintro HO
  iapply (step_prev m ρ K c f _ _) $$ [HtP HO Hpf]
  · isplitr; · iexact HIBP
    isplitr; · iexact HRP
    isplitr; · iexact HRV
    isplitl [HtP]; · iexact HtP
    isplitl [HO]; · iexact HO
    iexact Hpf
  iintro ⟨HO, Hpf⟩
  iapply (load_at c xM x) $$ Hx; iintro Hx
  rw [read_x]
  iapply (load_at c s3M f3) $$ Hs; iintro Hs
  iapply (store_to c s3M f3 (s0 x) (write_s f3 (s0 x))) $$ Hs; iintro Hs
  iapply (load_at c s3M (s0 x)) $$ Hs; iintro Hs
  iapply (load_at c s3M (s0 x)) $$ Hs; iintro Hs
  iapply (load_at c s3M (s0 x)) $$ Hs; iintro Hs
  iapply (store_to c s3M (s0 x) (s1 x) rfl) $$ Hs; iintro Hs
  iapply (load_at c s3M (s1 x)) $$ Hs; iintro Hs
  iapply (load_at c s3M (s1 x)) $$ Hs; iintro Hs
  iapply (load_at c s3M (s1 x)) $$ Hs; iintro Hs
  unfold runs
  rw [wp_ret, show Scalar.remsi (Scalar.divsi (Dev.word c) 1#32) 32#32 = posW c from rfl]; imodintro
  iapply Hk
  isplitl [HO]; · iexact HO
  isplitl [Hpf]; · iexact Hpf
  isplitl [Hx] <;> iassumption

/-- The fourth part: the last two passes over the block totals; both waits on the barrier; the product of everything
    before, received and acknowledged; and that times the device's own total, ready to send. -/
theorem runs_part4 (hx : xstg m ρ c = x) (f f1 f2 : CP F) (Kt : BitVec 32 → sProp 𝕄) :
    iprop((invs m ρ K c ∗ marks c ∗ levAts L lv
          ∗ (whenP (c.val < 31) (cred (tallyAt (barCell c) () 1)) ∗ whenP (0 < c.val) (cred (tallyAt (barCell c) () 1))
            ∗ whenP (0 < c.val) (cred (tallyAt (recvCell c) () N)))
          ∗ atPos ER (barCell c) 0 ∅ 0 ∗ atPos ER (recvCell c) 0 ∅ 0 ∗ dutyTok ER (ackCell (prv c)) 0 false
          ∗ owing c (O₂ c) ∗ whenP (c.val = 0) (pfPts c f) ∗ pts c cc0_scratch1 f1 ∗ pts c cc0_scratch2 f2 ∗ pts c cc0_scratch4 (b32 x))
        ∗ ((owing c (oV c) ∗ semVal (barCell c) 0 ∗ semVal (recvCell c) 0 ∗ whenP (c.val < 31) (barPay c) ∗ (∃ f, pfPts c f)
            ∗ pts c cc0_scratch1 (pcv m ρ c) ∗ sbPts c (sbv m ρ c) ∗ pts c cc0_scratch4 (b128 x))
          -∗ Kt (Scalar.addi (posW c) 1#32)))
      ⊢ runs c (k0_part4 xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8 c (posW c) (SemArray.scalar (sig.barrier 0 rfl)) (k0_pay16 (rdB H64 (b32 x)) (rdB L64 (b32 x)))) Kt := by
  simp only [k0_part4_eq_skeleton]; unfold k0_part4_skel
  simp only [semSignalWord, semWaitWord, Prog.lift, Prog.bind_op, Prog.bind_ret, Prog.pure_eq_ret]
  unfold invs marks
  iintro ⟨⟨⟨#HIB, #HIS, #HIV, #HIA, #HIBN, #HIBP, #HIVN, #HIAP⟩, ⟨#HRN, #HRP, #HRV, #HRS, #HRA⟩, #Hlev, ⟨Hc1, Hc2, Hc3⟩, HatB, HatV, HtA,
    HO, Hpf, Hpc, Hsb, Hb⟩, Hk⟩
  iapply (store_to c btM (b32 x) (b64 x) rfl) $$ Hb; iintro Hb
  iapply (load_at c btM (b64 x)) $$ Hb; iintro Hb
  iapply (load_at c btM (b64 x)) $$ Hb; iintro Hb
  iapply (load_at c btM (b64 x)) $$ Hb; iintro Hb
  iapply (store_to c btM (b64 x) (b128 x) rfl) $$ Hb; iintro Hb
  iapply (step_bar m ρ K c _ _) $$ [Hc1 Hc2 HO HatB]
  · isplitr; · iexact HIB
    isplitr; · iexact Hlev
    isplitl [Hc1]; · iexact Hc1
    isplitl [Hc2]; · iexact Hc2
    isplitl [HO]; · iexact HO
    iexact HatB
  iintro ⟨HO, HzB, Hpay⟩
  iapply (load_at c pcM f1) $$ Hpc; iintro Hpc
  iapply (store_to c pcM f1 (k0_pay18 (F := F)) (write_pc f1 _)) $$ Hpc; iintro Hpc
  iapply (step_recv m ρ K c f _ _) $$ [HtA Hc3 HO HatV Hpf Hpc]
  · isplitr; · iexact HIV
    isplitr; · iexact HIAP
    isplitr; · iexact Hlev
    isplitr; · iexact HRA
    isplitl [HtA]; · iexact HtA
    isplitl [Hc3]; · iexact Hc3
    isplitl [HO]; · iexact HO
    isplitl [HatV]; · iexact HatV
    isplitl [Hpf]; · iexact Hpf
    iexact Hpc
  iintro ⟨HO, HzV, Hpf, Hpc⟩
  iapply (load_at c pcM (pcv m ρ c)) $$ Hpc; iintro Hpc
  rw [read_pc]
  iapply (load_at c btM (b128 x)) $$ Hb; iintro Hb
  iapply (load_at c sbM f2) $$ Hsb; iintro Hsb
  iapply (store_to c sbM f2 (sbv m ρ c) ((write_sb f2 _).trans (by unfold sbv; rw [hx]))) $$ Hsb; iintro Hsb
  unfold runs
  rw [wp_ret]; imodintro
  iapply Hk
  isplitl [HO]; · iexact HO
  isplitl [HzB]; · iexact HzB
  isplitl [HzV]; · iexact HzV
  isplitl [Hpay]; · iexact Hpay
  isplitl [Hpf]; · iexact Hpf
  isplitl [Hpc]; · iexact Hpc
  isplitl [Hsb]; · rw [sbPts_eq]; iexact Hsb
  iexact Hb

end Parts

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- One point of the grid: the block staged before it, the result after it; the protocol's start and end around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts from, -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- and what it leaves. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- The body runs from the one to the other. -/
theorem sound_body (c : Dev nD) (Kt : PUnit → sProp 𝕄) :
    iprop(bodyPre m ρ c ∗ (bodyPost m ρ c -∗ Kt ⟨⟩))
      ⊢ runs c (cc0_body xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8) Kt := by
  simp only [cc0_body_eq_skeleton]; unfold cc0_body_skel
  simp only [semSignalWord, semWaitWord, Prog.lift, Prog.bind_op, Prog.bind_ret, Prog.pure_eq_ret]
  unfold bodyPre Φ₀ start ghost scrAll credsOf places
  iintro ⟨⟨⟨⟨⟨%K, #HI, #HM, ⟨HatB, HatS, HatV, HatA⟩, HtN, HtP, HtV, HtS, HtA⟩, ⟨Hc1, Hc2, Hc3, Hc4⟩, #Hlev⟩,
      ⟨%f0, Hpf⟩, ⟨%f1, Hpc⟩, ⟨%f2, Hsb⟩, ⟨%f3, Hs⟩, ⟨%f4, Hb⟩, %f5, He⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hpf := (Entails.of_eq (pfPts_eq c f0).symm) $$ Hpf
  unfold runs
  rw [wp_bind]
  iapply (runs_part1 m ρ K c (xstg m ρ c) f0 f3 _)
  isplitl [HtN HtP HO Hpf Hx Hs]
  · isplitr; · iexact HI
    isplitr; · iexact HM
    isplitl [HtN]; · iexact HtN
    isplitl [HtP]; · iexact HtP
    isplitl [HO]; · unfold owing; iexists W; iexact HO
    isplitl [Hpf]; · iexact Hpf
    isplitl [Hx] <;> iassumption
  iintro ⟨HO, Hpf, Hx, Hs⟩
  dsimp only
  rw [wp_bind]
  iapply (runs_part2 c (xstg m ρ c) _ f4 _)
  isplitl [Hs Hb]
  · isplitl [Hs] <;> iassumption
  iintro ⟨Hs, Hb⟩
  rw [wp_bind]
  iapply (runs_part3 c (xstg m ρ c) _)
  isplitl [Hb]; · iexact Hb
  iintro Hb
  rw [wp_bind]
  iapply (runs_part4 m ρ K c (xstg m ρ c) rfl f0 f1 f2 _)
  isplitl [Hc1 Hc2 Hc3 HatB HatV HtA HO Hpf Hpc Hsb Hb]
  · isplitr; · iexact HI
    isplitr; · iexact HM
    isplitr; · iexact Hlev
    isplitl [Hc1 Hc2 Hc3]
    · isplitl [Hc1]; · iexact Hc1
      isplitl [Hc2] <;> iassumption
    isplitl [HatB]; · iexact HatB
    isplitl [HatV]; · iexact HatV
    isplitl [HtA]; · iexact HtA
    isplitl [HO]; · iexact HO
    isplitl [Hpf]; · iexact Hpf
    isplitl [Hpc]; · iexact Hpc
    isplitl [Hsb] <;> iassumption
  iintro ⟨HO, HzB, HzV, Hpay, ⟨%f6, Hpf⟩, Hpc, Hsb, Hb⟩
  unfold invs marks
  icases HI with ⟨#HIB, #HIS, #HIV, #HIA, #HIBN, #HIBP, #HIVN, #HIAP⟩
  icases HM with ⟨#HRN, #HRP, #HRV, #HRS, #HRA⟩
  iapply (step_send m ρ K c _ _) $$ [HtS HtV Hpay HO Hsb]
  · isplitr; · iexact HIS
    isplitr; · iexact HIVN
    isplitr; · iexact HRS
    isplitl [HtS]; · iexact HtS
    isplitl [HtV]; · iexact HtV
    isplitl [Hpay]; · iexact Hpay
    isplitl [HO]; · iexact HO
    iexact Hsb
  iintro ⟨HO, HcS, Hsb⟩
  iapply (load_at c btM (b128 (xstg m ρ c))) $$ Hb; iintro Hb
  iapply (load_at c pcM (pcv m ρ c)) $$ Hpc; iintro Hpc
  rw [read_pc]
  iapply (load_at c ebM f5) $$ He; iintro He
  iapply (store_at c ebM f5) $$ He; iintro He
  iapply (load_at c pcM (pcv m ρ c)) $$ Hpc; iintro Hpc
  rw [read_pc]
  iapply (load_at c ebM _) $$ He; iintro He
  iapply (store_to c ebM _ (ebAt (xstg m ρ c) (pcv m ρ c)) (wrE_wrE _ _ _ _)) $$ He; iintro He
  iapply (load_at c s3M (s3 (xstg m ρ c))) $$ Hs; iintro Hs
  rw [read_s]
  iapply (load_at c ebM (ebAt (xstg m ρ c) (pcv m ρ c))) $$ He; iintro He
  rw [read_e]
  iapply (load_at c oM g1) $$ Hout; iintro Hout
  iapply (store_to c oM g1 (outAt m ρ c) ((write_o g1 _).trans (by unfold outAt outOf; rfl))) $$ Hout; iintro Hout
  iapply (step_end m ρ K c _ _) $$ [HatS HatA Hc4 HO HcS Hsb]
  · isplitr; · iexact HIS
    isplitr; · iexact HIA
    isplitl [HatS]; · iexact HatS
    isplitl [HatA]; · iexact HatA
    isplitl [Hc4]; · iexact Hc4
    isplitl [HO]; · iexact HO
    isplitl [HcS]; · iexact HcS
    iexact Hsb
  iintro ⟨HO, HzS, HzA, Hsb⟩
  unfold runs
  rw [wp_ret]; imodintro
  iapply Hk
  unfold bodyPost Φ₁ scrAll Dat.owesAt Pipeline.owesWithin
  rw [show (dats m ρ 0 c).owed t₀.succ = 0 from rfl]
  unfold owing
  icases HO with ⟨%W', HO⟩
  isplitl [Hpf Hpc Hsb Hs Hb He HzB HzV HzS HzA]
  · isplitl [Hpf Hpc Hsb Hs Hb He]
    · isplitl [Hpf]; · iexists f6; iapply (Entails.of_eq (pfPts_eq c f6)); iexact Hpf
      isplitl [Hpc]; · iexists _; iexact Hpc
      isplitl [Hsb]; · iexists (sbv m ρ c); iapply (Entails.of_eq (sbPts_eq c _)); iexact Hsb
      isplitl [Hs]; · iexists _; iexact Hs
      isplitl [Hb]; · iexists _; iexact Hb
      iexists _; iexact He
    isplitl [HzS]; · iexact HzS
    isplitl [HzV]; · iexact HzV
    isplitl [HzA] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The body obligation of the pipeline. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ runs c (cc0_body xM (Memref.isWhole_whole _) oM (Memref.isWhole_whole _) pfM (Memref.isWhole_whole _) pcM (Memref.isWhole_whole _)
          sbM (Memref.isWhole_whole _) s3M (Memref.isWhole_whole _) btM (Memref.isWhole_whole _) ebM (Memref.isWhole_whole _)
          cc0_scratch6 cc0_scratch7 cc0_scratch8) (fun _ => bodyPost m ρ c)
  iintro H
  iapply (sound_body m ρ c fun _ => bodyPost m ρ c)
  isplitl [H]; · iexact H
  iintro H; iexact H

end Cert.KernelIdeal.Run

end
-- ==== Proof.Launch.lean ====
/-
# The launch: every execution of the kernel's program ends, with the computed results

The protocol's records are dealt to the devices, each device's body is run, and what they leave is read off the
final memory: every result array at what its device computed, every argument as it was, every semaphore at zero.
-/
module

public import proofs.«01_k».proof.Proof.Body
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records dealt -/

theorem ownSemFacts : Pipeline.OwnSemFacts cfg0.spec osem := by decide
theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- Every semaphore of the protocol. -/
def chainCells : Finset (GSem nD τ sig) := Finset.univ.map ⟨kcell, kcell_injective⟩

/-- The duties of a device's own semaphores: the barrier's two, and one each of the others. -/
abbrev tokOf (cj : Dev nD × Fin 5) : GSem nD τ sig × ℕ × Bool := match cj.2 with
  | 0 => (barCell cj.1, 0, false) | 1 => (barCell cj.1, 0, true) | 2 => (sendCell cj.1, 0, false) | 3 => (recvCell cj.1, 0, false)
  | 4 => (ackCell cj.1, 0, false)
/-- Which semaphore of its device a duty belongs to, and which of that semaphore's duties it is. -/
abbrev tokLoc : Fin 5 → SemLoc sig × Bool
  | 0 => (csem 0, false) | 1 => (csem 0, true) | 2 => (csem 1, false) | 3 => (csem 2, false) | 4 => (csem 3, false)
theorem tokOf_injective : Function.Injective (tokOf : Dev nD × Fin 5 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have h2 : tokLoc j = tokLoc j' := by
    have := congrArg (fun x : GSem nD τ sig × ℕ × Bool => (x.1.2, x.2.2)) h
    fin_cases j <;> fin_cases j' <;> exact this
  have : j = j' := by
    clear h
    revert h2; revert j j'; decide
  subst this; rfl
def chainToks : Finset (GSem nD τ sig × ℕ × Bool) := Finset.univ.map ⟨tokOf, tokOf_injective⟩

/-- The records at launch: the pipeline's and the chain's. -/
def u₀ : UU := (initOf (Pipeline.cells cfgs cellOf_inj) (Pipeline.launchToks cfgs cellOf_inj), initOf chainCells chainToks)

/-- The duties of device `c`'s own semaphores. -/
def toks (c : Dev nD) : sProp 𝕄 :=
  iprop(dutyTok ER (barCell c) 0 false ∗ dutyTok ER (barCell c) 0 true ∗ dutyTok ER (sendCell c) 0 false ∗ dutyTok ER (recvCell c) 0 false
    ∗ dutyTok ER (ackCell c) 0 false)
/-- What is minted for device `c`, -/
def G (c : Dev nD) : sProp 𝕄 :=
  iprop((bigSep Finset.univ fun k : Fin 4 => roundState ER (chainRd m ρ) (kcell (c, k)) 0)
    ∗ (bigSep Finset.univ fun k : Fin 4 => iprop(atPos ER (kcell (c, k)) 0 ∅ 0 ∗ reached ER (kcell (c, k)) 0)) ∗ toks c)
/-- and what it starts from. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The chain's records at launch, minted device by device. -/
theorem fund_chain : BI.own (ER (initOf chainCells chainToks)) ⊢ (|==> bigSep Finset.univ (G m ρ) : sProp 𝕄) := by
  have hX (Φ : GSem nD τ sig → sProp 𝕄) : bigSep chainCells Φ = bigSep Finset.univ fun c : Dev nD => bigSep Finset.univ fun k : Fin 4 => Φ (kcell (c, k)) := by
    unfold chainCells; rw [bigSep_map, bigSep_univ_prod]; rfl
  have hT : bigSep chainToks (fun x => (dutyTok ER x.1 x.2.1 x.2.2 : sProp 𝕄)) = bigSep Finset.univ fun c : Dev nD => toks c := by
    unfold chainToks; rw [bigSep_map, bigSep_univ_prod]
    exact bigSep_congr fun c _ => by unfold toks; rw [bigSep_fin5]; rfl
  iintro HX
  imod (Rounds.fund ER (chainRd m ρ) chainCells chainToks) $$ HX with ⟨Hst, Hr, Hat, Htok⟩
  imodintro
  ihave Hst' := (Entails.of_eq (hX fun g => roundState ER (chainRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (ackCell c) 0) := by
  rw [Pipeline.ownSems0_eq_of_list c osem [0, 1, 2] (by decide) (by decide)]; rfl
omit [FloatOps F] in
/-- the barrier is the one that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HA⟩, HB⟩
  isplitl [HB]; · iexact HB
  isplitl [HS]; · iexact HS
  isplitl [HV] <;> iassumption

/-- A device's semaphores at zero become the protocol's invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (chainRd m ρ) (kcell (c, k)) 0)
      ⊢ (|={Set.univ}=> bigSep Finset.univ fun k => iprop(∃ κ : ℕ, cellInv ER (chainRd m ρ) κ (kcell (c, k))) : sProp 𝕄) from by
        rw [← bigSep_sep']
        exact (bigSep_mono fun k _ => (Rounds.body_intro ER (chainRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may use: all the invariants, and that every semaphore is ready. -/
def records (K : Dev nD × Fin 4 → ℕ) : sProp 𝕄 :=
  iprop((bigSep Finset.univ fun ck : Dev nD × Fin 4 => cellInv ER (chainRd m ρ) (K ck) (kcell ck))
    ∗ bigSep Finset.univ fun ck : Dev nD × Fin 4 => reached ER (kcell ck) 0)
instance records_persistent (K : Dev nD × Fin 4 → ℕ) : BI.Persistent (records m ρ K) := by unfold records; infer_instance

theorem inv_at (K : Dev nD × Fin 4 → ℕ) (ck : Dev nD × Fin 4) :
    (bigSep Finset.univ fun ck : Dev nD × Fin 4 => (cellInv ER (chainRd m ρ) (K ck) (kcell ck) : sProp 𝕄)) ⊢ cellInv ER (chainRd m ρ) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- The duties device `c` pays. -/
def payToks (c : Dev nD) : sProp 𝕄 :=
  iprop(dutyTok ER (barCell (nxt c)) 0 false ∗ dutyTok ER (barCell (prv c)) 0 true ∗ dutyTok ER (recvCell (nxt c)) 0 false
    ∗ dutyTok ER (sendCell c) 0 false ∗ dutyTok ER (ackCell (prv c)) 0 false)

theorem ghost_intro (K : Dev nD × Fin 4 → ℕ) (c : Dev nD) : iprop(records m ρ K ∗ places c) ⊢ G' m ρ c := by
  unfold records G' ghost invs marks
  iintro ⟨⟨#HI, #HR⟩, Hp⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (nxt c, 0)); iexact HI
    isplitr; · iapply (inv_at m ρ K (prv c, 0)); iexact HI
    isplitr; · iapply (inv_at m ρ K (nxt c, 2)); iexact HI
    iapply (inv_at m ρ K (prv c, 3)); iexact HI
  isplitr
  · isplitr; · iapply (reached_at (F := F) (nxt c, 0)); iexact HR
    isplitr; · iapply (reached_at (F := F) (prv c, 0)); iexact HR
    isplitr; · iapply (reached_at (F := F) (c, 2)); iexact HR
    isplitr; · iapply (reached_at (F := F) (c, 1)); iexact HR
    iapply (reached_at (F := F) (prv c, 3)); iexact HR
  iexact Hp

omit [FloatOps F] in
/-- Each duty dealt to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell c) 0 false : sProp 𝕄)),
    bigSep_univ_equiv ring.symm (fun c : Dev nD => (dutyTok ER (ackCell c) 0 false : sProp 𝕄))]
  iintro ⟨H1, H2, H3, H4, H5⟩
  isplitl [H1]; · iexact H1
  isplitl [H2]; · iexact H2
  isplitl [H4]; · iexact H4
  isplitl [H3]; · iexact H3
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (chainRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (chainRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ places c from Entails.of_eq (by unfold places payToks; rw [bigSep_fin4])))
    isplitl [Hat]; · iexact Hat
    iexact Htk

/-- All devices' semaphores and records at once become what every device starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem prv_lt_iff (c : Dev nD) : (prv c).val < 31 ↔ 0 < c.val := by revert c; decide +kernel
theorem nxt_pos_iff (c : Dev nD) : 0 < (nxt c).val ↔ c.val < 31 := by revert c; decide +kernel

/-- A unit paid into another semaphore counts nothing here. -/
theorem when_ne {p : Prop} [Decidable p] {g g' : GSem nD τ sig} (h : g' ≠ g) (n : ℕ) :
    (if p then tallyAt g () n else 0 : CellTallies nD τ sig Unit) g' () = 0 := by
  split
  · rw [tallyAt_ne_cell h]; rfl
  · rfl
/-- What the devices with one after them pay into that one's semaphore. -/
theorem when_nxt (cell : Dev nD → GSem nD τ sig) (hc : ∀ a b, cell a = cell b → a = b) (n : ℕ) (d c : Dev nD) :
    (if d.val < 31 then tallyAt (cell (nxt d)) () n else 0 : CellTallies nD τ sig Unit) (cell c) () = if d = prv c then (if 0 < c.val then n else 0) else 0 := by
  by_cases hd : d = prv c
  · subst hd
    rw [if_pos rfl, nxt_prv]
    by_cases h : 0 < c.val
    · rw [if_pos ((prv_lt_iff c).mpr h), if_pos h, tallyAt_apply, if_pos ⟨rfl, rfl⟩]
    · rw [if_neg (fun h' => h ((prv_lt_iff c).mp h')), if_neg h]; rfl
  · rw [if_neg hd]
    exact when_ne (fun h => hd (by rw [hc _ _ h, prv_nxt])) n
/-- What the devices with one before them pay into that one's semaphore. -/
theorem when_prv (cell : Dev nD → GSem nD τ sig) (hc : ∀ a b, cell a = cell b → a = b) (n : ℕ) (d c : Dev nD) :
    (if 0 < d.val then tallyAt (cell (prv d)) () n else 0 : CellTallies nD τ sig Unit) (cell c) () = if d = nxt c then (if c.val < 31 then n else 0) else 0 := by
  by_cases hd : d = nxt c
  · subst hd
    rw [if_pos rfl, prv_nxt]
    by_cases h : c.val < 31
    · rw [if_pos ((nxt_pos_iff c).mpr h), if_pos h, tallyAt_apply, if_pos ⟨rfl, rfl⟩]
    · rw [if_neg (fun h' => h ((nxt_pos_iff c).mp h')), if_neg h]; rfl
  · rw [if_neg hd]
    exact when_ne (fun h => hd (by rw [hc _ _ h, nxt_prv])) n

theorem cell_dev {sm : SemLoc sig} (a b : Dev nD) (h : (((a : Thread nD τ), sm) : GSem nD τ sig) = ((b : Thread nD τ), sm)) : a = b :=
  congrArg (fun g : GSem nD τ sig => g.1.1) h

theorem O₀_apply (d : Dev nD) (g : GSem nD τ sig) : O₀ d g () = oV d g () + oA d g () + oP d g () + oN d g () := rfl

theorem owed_bar (d c : Dev nD) :
    O₀ d (barCell c) () = (if d = nxt c then (if c.val < 31 then 1 else 0) else 0) + (if d = prv c then (if 0 < c.val then 1 else 0) else 0) := by
  rw [O₀_apply]; unfold oV oA oP oN
  rw [when_ne (fun h => recv_ne_bar (congrArg Prod.snd h).symm), when_ne (fun h => ack_ne_bar (congrArg Prod.snd h).symm),
    when_prv barCell (fun a b h => cell_dev a b h), when_nxt barCell (fun a b h => cell_dev a b h), Nat.zero_add]
theorem owed_recv (d c : Dev nD) : O₀ d (recvCell c) () = if d = prv c then (if 0 < c.val then N else 0) else 0 := by
  rw [O₀_apply]; unfold oV oA oP oN
  rw [when_nxt recvCell (fun a b h => cell_dev a b h), when_ne (fun h => ack_ne_recv (congrArg Prod.snd h).symm),
    when_ne (fun h => recv_ne_bar (congrArg Prod.snd h)), when_ne (fun h => recv_ne_bar (congrArg Prod.snd h)), Nat.add_zero]
theorem owed_ack (d c : Dev nD) : O₀ d (ackCell c) () = if d = nxt c then (if c.val < 31 then 1 else 0) else 0 := by
  rw [O₀_apply]; unfold oV oA oP oN
  rw [when_prv ackCell (fun a b h => cell_dev a b h), when_ne (fun h => ack_ne_recv (congrArg Prod.snd h)),
    when_ne (fun h => ack_ne_bar (congrArg Prod.snd h)), when_ne (fun h => ack_ne_bar (congrArg Prod.snd h)), Nat.add_zero, Nat.zero_add]

theorem launch_bar (c : Dev nD) : tallyOn (barCell c) (launchCredit (Pipeline.owing O₀) 0 (barCell c))
      = (tallyAt (barCell c) () (if c.val < 31 then 1 else 0) + tallyAt (barCell c) () (if 0 < c.val then 1 else 0) : CellTallies nD τ sig Unit) := by
  rw [tallyAt_add]
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => _, Finset.sum_ite_eq' Finset.univ (prv c) fun _ => _, if_pos (Finset.mem_univ _), if_pos (Finset.mem_univ _)]
theorem launch_recv (c : Dev nD) : tallyOn (recvCell c) (launchCredit (Pipeline.owing O₀) 0 (recvCell c))
      = (tallyAt (recvCell c) () (if 0 < c.val then N else 0) : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (prv c) fun _ => _,
    if_pos (Finset.mem_univ _)]
theorem launch_ack (c : Dev nD) : tallyOn (ackCell c) (launchCredit (Pipeline.owing O₀) 0 (ackCell c))
      = (tallyAt (ackCell c) () (if c.val < 31 then 1 else 0) : CellTallies nD τ sig Unit) := by
  unfold tallyAt; refine congrArg _ (Finsupp.ext fun u => ?_); cases u
  rw [Pipeline.launchCredit_owing, Finsupp.single_eq_same, Finset.sum_congr rfl fun d _ => owed_ack d c, Finset.sum_ite_eq' Finset.univ (nxt c) fun _ => _,
    if_pos (Finset.mem_univ _)]

omit [FloatOps F] in
theorem cred_when (p : Prop) [Decidable p] (g : GSem nD τ sig) (n : ℕ) :
    (cred (tallyAt g () (if p then n else 0)) : sProp 𝕄) ⊢ whenP p (cred (tallyAt g () n)) := by
  by_cases h : p
  · rw [whenP_pos h, if_pos h]
  · rw [whenP_neg h]; iintro -; iempintro

omit [FloatOps F] in
/-- What is held of every semaphore but the barrier is held of the one received on and of the acknowledgement. -/
theorem recv_and_ack (Φ : SemLoc sig → sProp 𝕄) : bigSep (Finset.univ.erase (SemLoc.reg barS)) Φ ⊢ iprop(Φ (.dma recvS) ∗ Φ (.reg ackS)) :=
  have h : bigSep (Finset.univ.erase (SemLoc.reg barS)) Φ ⊢ iprop(Φ (.dma recvS) ∗ bigSep ((Finset.univ.erase (SemLoc.reg barS)).erase (.dma recvS)) Φ) :=
    Entails.of_eq (bigSep_erase (Finset.mem_erase.mpr ⟨recv_ne_bar, Finset.mem_univ _⟩))
  h.trans (sep_mono_right (bigSep_elim (Finset.mem_erase.mpr ⟨ack_ne_recv, Finset.mem_erase.mpr ⟨ack_ne_bar, Finset.mem_univ _⟩⟩)))

omit [FloatOps F] in
/-- The credit at launch is what the device waits with. -/
theorem creds (c : Dev nD) : (Pipeline.launchCred O₀ c : sProp 𝕄) ⊢ credsOf c := by
  unfold Pipeline.launchCred credsOf
  rw [bigSep_univ_at _ (SemLoc.reg barS), launch_bar]
  iintro ⟨HB, Hr⟩
  ihave HB := (cred_add _ _).1 $$ HB
  icases HB with ⟨H1, H2⟩
  isplitl [H1]; · iapply (cred_when (F := F) _ _ _); iexact H1
  isplitl [H2]; · iapply (cred_when (F := F) _ _ _); iexact H2
  ihave Hr := (recv_and_ack (F := F) _) $$ Hr
  icases Hr with ⟨HV, HA⟩
  isplitl [HV]
  · iapply (cred_when (F := F) _ _ _); rw [← launch_recv]; iexact HV
  iapply (cred_when (F := F) _ _ _); rw [← launch_ack]; iexact HA

/-! ## Entering and leaving -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAll
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scrAll
  iintro ⟨Hr, HzS, HzV, HzA, HzB⟩
  isplitl [HzB]; · iexact HzB
  isplitl [HzS HzV HzA]
  · isplitl [HzS]; · iexact HzS
    isplitl [HzV] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` at the end. -/
def finalA (c : Dev nD) (w : Fin cfg0.W) : Buf (Elt F) ((cfg0.win w).arr.view.loc (c : Thread nD τ)) := (dats m ρ 0 c).arrAt w cfg0.N

/-- Every window's array is at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its semaphores at zero, for any float values, every fair execution of the thirty-two devices'
    kernels ends, every window's array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_chain m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.KernelIdeal.Run

end
-- ==== Proof.Product.lean ====
/-
# What the kernel computes, as products over the extended reals

With exact arithmetic a doubling pass turns running products over windows of `w` entries into running products over
windows of `2 * w`. Eight passes over the 256 block totals, three over the 8 rows of a block, and the product handed
along the chain make every entry of a device's result the product of its column from the first row of the first
device to its own row.
-/
module

public import proofs.«01_k».proof.Proof.Values
public import Idealize.ShloMosaic.PureOps.Ideal
public import Idealize.ShloMosaic.Lib.ValueIdx
public import Idealize.ShloMosaic.Lib.ValueIdxCore

@[expose] public section

noncomputable section

namespace Cert.KernelIdeal.Run

open Cert.KernelIdeal Cert.KernelIdeal.Gen
open Idealize.ShloMosaic Idealize.ShloMosaic.TcCoe Idealize.ShloMosaic.ValueIdx

/-! ## Windows of a sequence -/

/-- The product of the `w` entries of `g` that end at entry `i` (fewer where the sequence begins inside). -/
def win (g : ℕ → EReal) (w i : ℕ) : EReal := ∏ j ∈ Finset.Ico (i + 1 - w) (i + 1), g j

theorem win_one (g : ℕ → EReal) (i : ℕ) : win g 1 i = g i := by
  unfold win
  rw [Nat.add_sub_cancel, Finset.prod_Ico_succ_top (le_refl i), Finset.Ico_self, Finset.prod_empty, one_mul]

/-- A window that begins before the sequence does is the whole of it up to `i`. -/
theorem win_all (g : ℕ → EReal) {w i : ℕ} (h : i < w) : win g w i = ∏ j ∈ Finset.range (i + 1), g j := by
  unfold win
  rw [Nat.sub_eq_zero_of_le h, Finset.range_eq_Ico]

/-- Two windows side by side make one of twice the length. -/
theorem win_double (g : ℕ → EReal) {w i : ℕ} (h : w ≤ i) : win g w i * win g w (i - w) = win g (2 * w) i := by
  unfold win
  rw [mul_comm, show i - w + 1 = i + 1 - w by omega, show i + 1 - w - w = i + 1 - 2 * w by omega,
    Finset.prod_Ico_consecutive _ (by omega) (by omega)]

/-- A doubling pass, entry by entry: from windows of `w` to windows of `2 * w`. -/
theorem win_pass {n w : ℕ} {g p q : ℕ → EReal} (hp : ∀ i < n, p i = win g w i)
    (hq : ∀ i < n, q i = if w ≤ i then p i * p (i - w) else p i) : ∀ i < n, q i = win g (2 * w) i := by
  intro i hi
  rw [hq i hi]
  by_cases h : w ≤ i
  · rw [if_pos h, hp i hi, hp (i - w) (by omega), win_double g h]
  · rw [if_neg h, hp i hi]
    unfold win
    rw [Nat.sub_eq_zero_of_le (by omega), Nat.sub_eq_zero_of_le (by omega)]

/-! ## The values the kernel stores, entry by entry -/

theorem pay5_apply (a b : Vec Ideal S256x7x1024 .f32) (y : S256x7x1024.Idx) : k0_pay5 a b y = (a y * b y : EReal) := congrFun (shapeCast_self (mulf a b : FVec Ideal S256x7x1024 .f32) _) y
theorem pay8_apply (a b : Vec Ideal S256x4x1024 .f32) (y : S256x4x1024.Idx) : k0_pay8 a b y = (a y * b y : EReal) := congrFun (shapeCast_self (mulf a b : FVec Ideal S256x4x1024 .f32) _) y
theorem pay10_apply (a b : Vec Ideal S255x1024 .f32) (y : S255x1024.Idx) : k0_pay10 a b y = (a y * b y : EReal) := congrFun (shapeCast_self (mulf a b : FVec Ideal S255x1024 .f32) _) y
theorem pay11_apply (a b : Vec Ideal S254x1024 .f32) (y : S254x1024.Idx) : k0_pay11 a b y = (a y * b y : EReal) := congrFun (shapeCast_self (mulf a b : FVec Ideal S254x1024 .f32) _) y
theorem pay12_apply (a b : Vec Ideal S252x1024 .f32) (y : S252x1024.Idx) : k0_pay12 a b y = (a y * b y : EReal) := congrFun (shapeCast_self (mulf a b : FVec Ideal S252x1024 .f32) _) y
theorem pay13_apply (a b : Vec Ideal S248x1024 .f32) (y : S248x1024.Idx) : k0_pay13 a b y = (a y * b y : EReal) := congrFun (shapeCast_self (mulf a b : FVec Ideal S248x1024 .f32) _) y
theorem pay14_apply (a b : Vec Ideal S240x1024 .f32) (y : S240x1024.Idx) : k0_pay14 a b y = (a y * b y : EReal) := congrFun (shapeCast_self (mulf a b : FVec Ideal S240x1024 .f32) _) y
theorem pay15_apply (a b : Vec Ideal S224x1024 .f32) (y : S224x1024.Idx) : k0_pay15 a b y = (a y * b y : EReal) := congrFun (shapeCast_self (mulf a b : FVec Ideal S224x1024 .f32) _) y
theorem pay16_apply (a b : Vec Ideal S192x1024 .f32) (y : S192x1024.Idx) : k0_pay16 a b y = (a y * b y : EReal) := congrFun (shapeCast_self (mulf a b : FVec Ideal S192x1024 .f32) _) y
theorem pay17_apply (a b : Vec Ideal S128x1024 .f32) (y : S128x1024.Idx) : k0_pay17 a b y = (a y * b y : EReal) := congrFun (shapeCast_self (mulf a b : FVec Ideal S128x1024 .f32) _) y
theorem pay76_apply (a b : Vec Ideal S256x6x1024 .f32) (y : S256x6x1024.Idx) : k0_pay7 (k0_pay6 a b) y = (a y * b y : EReal) := congrFun (shapeCast_self (mulf a b : FVec Ideal S256x6x1024 .f32) _) y
theorem pay20_apply (a b : Vec Ideal S1x1024 .f32) (y : S1x1024.Idx) : k0_pay20 a b y = (a y * b y : EReal) := congrFun (shapeCast_self (mulf a b : FVec Ideal S1x1024 .f32) _) y
theorem pay19_apply (a : Vec Ideal S1x1024 .f32) (y : S1x1024.Idx) : k0_pay19 a y = a y := congrFun (shapeCast_self a _) y
theorem pay2_apply (a : Vec Ideal S1x1024 .f32) (y : S1x1024.Idx) : k0_pay2 a y = a y := congrFun (shapeCast_self a _) y
/-- The word of the float one denotes one. -/
theorem ofBits_one : Ideal.ofBits .f32 0x3F800000#32 = 1 := by
  simp [Ideal.ofBits, Ideal.ieee, -EReal.coe_mul]; norm_num
theorem pay18_apply (y : S1x1024.Idx) : k0_pay18 (F := Ideal) y = (1 : EReal) :=
  (congrFun (shapeCast_self (broadcast S1x1024 (Scalar.ofBits .f32 0x3F800000#32 : Ideal .f32)) _) y).trans ofBits_one
theorem pay1_apply (a : Vec Ideal S255x1024 .f32) (b : Vec Ideal S1x1024 .f32) (i : Fin 255) (k : Fin 1024) :
    k0_pay1 a b (ix2 i k) = (a (ix2 i k) * b (ix2 (0 : Fin 1) k) : EReal) :=
  (congrFun (shapeCast_self (mulf a (broadcastTo S255x1024 b broadcasts_S1x1024_S255x1024) : FVec Ideal S255x1024 .f32) _) (ix2 i k)).trans
    (congrArg (fun v : EReal => (a (ix2 i k) * v : EReal)) (broadcastTo_apply b broadcasts_S1x1024_S255x1024 (ix2 i k) (ix2 (0 : Fin 1) k) fun
      | ⟨0, _⟩ => rfl
      | ⟨1, _⟩ => rfl))
/-- Row `8 * b + r` is row `r` of block `b`. -/
theorem pay4_apply (x : Vec Ideal S2048x1024 .f32) (b : Fin 256) (r : Fin 8) (k : Fin 1024) (i : Fin 2048) (h : i.val = 8 * b.val + r.val) :
    k0_pay4 x (ix3 b r k) = x (ix2 i k) :=
  (congrFun (shapeCast_self (shapeCast S256x8x1024 (shapeCast S2048x1024 x shapeCasts_S2048x1024_S2048x1024) shapeCasts_S2048x1024_S256x8x1024) _) (ix3 b r k)).trans
    ((shapeCast_apply _ shapeCasts_S2048x1024_S256x8x1024 (ix3 b r k) (ix2 i k) (by
      rw [Shape.rowMajor_val_two, Shape.rowMajor_val_three]
      show i.val * 1024 + k.val = (b.val * 8 + r.val) * 1024 + k.val
      omega)).trans (congrFun (shapeCast_self x _) (ix2 i k)))
theorem pay9_apply (a : Vec Ideal S256x1x1024 .f32) (b : Fin 256) (k : Fin 1024) : k0_pay9 a (ix2 b k) = a (ix3 b (0 : Fin 1) k) :=
  (congrFun (shapeCast_self (shapeCast S256x1024 a shapeCasts_S256x1x1024_S256x1024) _) (ix2 b k)).trans
    (shapeCast_apply a shapeCasts_S256x1x1024_S256x1024 (ix2 b k) (ix3 b (0 : Fin 1) k) (by
      rw [Shape.rowMajor_val_two, Shape.rowMajor_val_three]
      show (b.val * 1 + 0) * 1024 + k.val = b.val * 1024 + k.val
      omega))
theorem pay3_apply (a : Vec Ideal S256x8x1024 .f32) (e : Vec Ideal S256x1024 .f32) (b : Fin 256) (r : Fin 8) (k : Fin 1024) (i : Fin 2048)
    (h : i.val = 8 * b.val + r.val) : k0_pay3 a e (ix2 i k) = (a (ix3 b r k) * e (ix2 b k) : EReal) :=
  (shapeCast_apply (mulf a (broadcastTo S256x8x1024 (shapeCast S256x1x1024 e shapeCasts_S256x1024_S256x1x1024) broadcasts_S256x1x1024_S256x8x1024) : FVec Ideal S256x8x1024 .f32)
      shapeCasts_S256x8x1024_S2048x1024 (ix2 i k) (ix3 b r k) (by
        rw [Shape.rowMajor_val_two, Shape.rowMajor_val_three]
        show (b.val * 8 + r.val) * 1024 + k.val = i.val * 1024 + k.val
        omega)).trans
    (congrArg (fun v : EReal => (a (ix3 b r k) * v : EReal))
      ((broadcastTo_apply (shapeCast S256x1x1024 e shapeCasts_S256x1024_S256x1x1024) broadcasts_S256x1x1024_S256x8x1024 (ix3 b r k) (ix3 b (0 : Fin 1) k) fun
        | ⟨0, _⟩ => rfl
        | ⟨1, _⟩ => rfl
        | ⟨2, _⟩ => rfl).trans
      (shapeCast_apply e shapeCasts_S256x1024_S256x1x1024 (ix3 b (0 : Fin 1) k) (ix2 b k) (by
        rw [Shape.rowMajor_val_two, Shape.rowMajor_val_three]
        show b.val * 1024 + k.val = (b.val * 1 + 0) * 1024 + k.val
        omega))))

/-! ## Columns of the buffers -/

/-- Column `k` of a 256-row buffer; -/
def colB (f : CB Ideal) (k : Fin 1024) (i : ℕ) : EReal := if h : i < 256 then f (ix2 ⟨i, h⟩ k) else 1
/-- column `k` of block `b` of a buffer of blocks of 8 rows; -/
def col3 (f : C3 Ideal) (b : Fin 256) (k : Fin 1024) (r : ℕ) : EReal := if h : r < 8 then f (ix3 b ⟨r, h⟩ k) else 1
/-- entry `k` of a one-row buffer; -/
def colP (f : CP Ideal) (k : Fin 1024) : EReal := f (ix2 (0 : Fin 1) k)
/-- column `k` of a 2048-row buffer. -/
def colX (f : CX Ideal) (k : Fin 1024) (i : ℕ) : EReal := if h : i < 2048 then f (ix2 ⟨i, h⟩ k) else 1

theorem colB_of_lt (f : CB Ideal) (k : Fin 1024) {i : ℕ} (h : i < 256) : colB f k i = f (ix2 ⟨i, h⟩ k) := dif_pos h
theorem col3_of_lt (f : C3 Ideal) (b : Fin 256) (k : Fin 1024) {r : ℕ} (h : r < 8) : col3 f b k r = f (ix3 b ⟨r, h⟩ k) := dif_pos h
theorem colX_of_lt (f : CX Ideal) (k : Fin 1024) {i : ℕ} (h : i < 2048) : colX f k i = f (ix2 ⟨i, h⟩ k) := dif_pos h

/-- What a load of rows `[o, o + W)` of a 256-row buffer reads. -/
theorem rdB_rows {o W : ℕ} (inb : ∀ a : Fin 2, (![o, 0] : Fin 2 → ℕ) a + (![W, 1024] : Fin 2 → ℕ) a ≤ S256x1024.size a) (f : CB Ideal)
    (y : (Rect.unit (s := S256x1024) ![o, 0] ![W, 1024] inb).shape.Idx) (i : Fin 256) (k : Fin 1024)
    (h0 : i.val = o + (y (0 : Fin 2)).val) (h1 : k.val = (y (1 : Fin 2)).val) :
    rdB (Rect.unit (s := S256x1024) ![o, 0] ![W, 1024] inb) f y = f (ix2 i k) := by
  refine congrArg f (funext fun a => Fin.ext ?_)
  match a with
  | ⟨0, _⟩ => show o + 1 * (y (0 : Fin 2)).val = i.val; omega
  | ⟨1, _⟩ => show 0 + 1 * (y (1 : Fin 2)).val = k.val; omega

/-- A store of rows `[o, 256)` of the products with the rows `o` above: a doubling pass. -/
theorem passB {o W : ℕ} (hoW : o + W = 256)
    (inbH : ∀ a : Fin 2, (![o, 0] : Fin 2 → ℕ) a + (![W, 1024] : Fin 2 → ℕ) a ≤ S256x1024.size a)
    (inbL : ∀ a : Fin 2, (![0, 0] : Fin 2 → ℕ) a + (![W, 1024] : Fin 2 → ℕ) a ≤ S256x1024.size a) (f : CB Ideal)
    (w : (⟨2, ![W, 1024]⟩ : Shape).Idx → EReal)
    (hw : ∀ y, w y = rdB (Rect.unit (s := S256x1024) ![o, 0] ![W, 1024] inbH) f y * rdB (Rect.unit (s := S256x1024) ![0, 0] ![W, 1024] inbL) f y)
    (k : Fin 1024) : ∀ i < 256, colB (wrB (Rect.unit (s := S256x1024) ![o, 0] ![W, 1024] inbH) f w) k i
      = if o ≤ i then colB f k i * colB f k (i - o) else colB f k i := by
  intro i hi
  rw [colB_of_lt _ _ hi, wrB_eq_wrE]
  refine (wrE_rows inbH f w _).trans ?_
  by_cases h : o ≤ i
  · have h' : o ≤ i ∧ i < o + W := ⟨h, by omega⟩
    rw [dif_pos h', if_pos h, hw, colB_of_lt f k hi, colB_of_lt f k (show i - o < 256 by omega)]
    refine congrArg₂ (· * ·) (rdB_rows inbH f _ ⟨i, hi⟩ k ?_ ?_) (rdB_rows inbL f _ ⟨i - o, by omega⟩ k ?_ ?_)
    · show i = o + (i - o); omega
    · show k.val = k.val - 0; omega
    · show i - o = 0 + (i - o); omega
    · show k.val = k.val - 0; omega
  · rw [dif_neg (fun h' => h h'.1), if_neg h, colB_of_lt f k hi]

/-- A store of rows `[o, o + W)`, read at one of them; -/
theorem wrE_in {o W : ℕ} (inb : ∀ a : Fin 2, (![o, 0] : Fin 2 → ℕ) a + (![W, 1024] : Fin 2 → ℕ) a ≤ S256x1024.size a) (f : CB Ideal)
    (w : (⟨2, ![W, 1024]⟩ : Shape).Idx → EReal) (i : Fin 256) (j : Fin W) (k : Fin 1024) (h : i.val = o + j.val) :
    wrE (Rect.unit (s := S256x1024) ![o, 0] ![W, 1024] inb) f w (ix2 i k) = w (ix2 j k) :=
  View.read_writes_cons_rows_of_mem (Val := Elt Ideal) (View.whole cc0_scratch5 : View sig .tc _ S256x1024 .f32) f (o := o) inb w [] (ix2 i k) (ix2 j k) rfl h rfl
/-- read elsewhere. -/
theorem wrE_out {o W : ℕ} (inb : ∀ a : Fin 2, (![o, 0] : Fin 2 → ℕ) a + (![W, 1024] : Fin 2 → ℕ) a ≤ S256x1024.size a) (f : CB Ideal)
    (w : (⟨2, ![W, 1024]⟩ : Shape).Idx → EReal) (i : Fin 256) (k : Fin 1024) (h : i.val < o ∨ o + W ≤ i.val) :
    wrE (Rect.unit (s := S256x1024) ![o, 0] ![W, 1024] inb) f w (ix2 i k) = f (ix2 i k) :=
  View.read_writes_cons_rows_of_not_mem (Val := Elt Ideal) (View.whole cc0_scratch5 : View sig .tc _ S256x1024 .f32) f (o := o) (W := W) inb w [] (ix2 i k) rfl rfl h

/-- What a load of rows `[o, o + W)` of every block reads. -/
theorem rd3_rows {o W : ℕ} (inb : ∀ a : Fin 3, (![0, o, 0] : Fin 3 → ℕ) a + (![256, W, 1024] : Fin 3 → ℕ) a ≤ S256x8x1024.size a) (f : C3 Ideal)
    (y : (Rect.unit (s := S256x8x1024) ![0, o, 0] ![256, W, 1024] inb).shape.Idx) (b : Fin 256) (r : Fin 8) (k : Fin 1024)
    (h0 : b.val = (y (0 : Fin 3)).val) (h1 : r.val = o + (y (1 : Fin 3)).val) (h2 : k.val = (y (2 : Fin 3)).val) :
    rd3 (Rect.unit (s := S256x8x1024) ![0, o, 0] ![256, W, 1024] inb) f y = f (ix3 b r k) := by
  refine congrArg f (funext fun a => Fin.ext ?_)
  match a with
  | ⟨0, _⟩ => show 0 + 1 * (y (0 : Fin 3)).val = b.val; omega
  | ⟨1, _⟩ => show o + 1 * (y (1 : Fin 3)).val = r.val; omega
  | ⟨2, _⟩ => show 0 + 1 * (y (2 : Fin 3)).val = k.val; omega

/-- A store of rows `[o, 8)` of every block of the products with the rows `o` above: a doubling pass. -/
theorem pass3 {o W : ℕ} (hoW : o + W = 8)
    (inbH : ∀ a : Fin 3, (![0, o, 0] : Fin 3 → ℕ) a + (![256, W, 1024] : Fin 3 → ℕ) a ≤ S256x8x1024.size a)
    (inbL : ∀ a : Fin 3, (![0, 0, 0] : Fin 3 → ℕ) a + (![256, W, 1024] : Fin 3 → ℕ) a ≤ S256x8x1024.size a) (f : C3 Ideal)
    (w : (⟨3, ![256, W, 1024]⟩ : Shape).Idx → EReal)
    (hw : ∀ y, w y = rd3 (Rect.unit (s := S256x8x1024) ![0, o, 0] ![256, W, 1024] inbH) f y * rd3 (Rect.unit (s := S256x8x1024) ![0, 0, 0] ![256, W, 1024] inbL) f y)
    (b : Fin 256) (k : Fin 1024) : ∀ r < 8, col3 (wr3 (Rect.unit (s := S256x8x1024) ![0, o, 0] ![256, W, 1024] inbH) f w) b k r
      = if o ≤ r then col3 f b k r * col3 f b k (r - o) else col3 f b k r := by
  intro r hr
  have hb : b.val < 256 := b.isLt
  have hk : k.val < 1024 := k.isLt
  rw [col3_of_lt _ _ _ hr]
  by_cases h : o ≤ r
  · rw [if_pos h, col3_of_lt f b k hr, col3_of_lt f b k (show r - o < 8 by omega)]
    refine (View.read_writes_cons_unit_of_mem (Val := Elt Ideal) (View.whole cc0_scratch3 : View sig .tc _ S256x8x1024 .f32) f (off' := ![0, o, 0]) inbH w []
      (ix3 b (⟨r, hr⟩ : Fin 8) k) (ix3 b (⟨r - o, by omega⟩ : Fin W) k) rfl fun a => ?_).trans ((hw _).trans ?_)
    · match a with
      | ⟨0, _⟩ => show b.val = 0 + b.val; omega
      | ⟨1, _⟩ => show r = o + (r - o); omega
      | ⟨2, _⟩ => show k.val = 0 + k.val; omega
    refine congrArg₂ (fun u v : EReal => u * v) (rd3_rows inbH f _ b ⟨r, hr⟩ k rfl ?_ rfl) (rd3_rows inbL f _ b ⟨r - o, by omega⟩ k rfl ?_ rfl)
    · show r = o + (r - o); omega
    · show r - o = 0 + (r - o); omega
  · rw [if_neg h, col3_of_lt f b k hr]
    exact View.read_writes_cons_unit_of_not_mem (Val := Elt Ideal) (View.whole cc0_scratch3 : View sig .tc _ S256x8x1024 .f32) f (off' := ![0, o, 0]) inbH w []
      (ix3 b (⟨r, hr⟩ : Fin 8) k) rfl (1 : Fin 3) (Or.inl (show r < o by omega))

/-! ## The three passes within the blocks -/

section
variable (x : CX Ideal) (b : Fin 256) (k : Fin 1024)

theorem s1_win : ∀ r < 8, col3 (s1 x) b k r = win (col3 (s0 x) b k) 2 r :=
  win_pass (w := 1) (fun r _ => (win_one _ r).symm)
    (pass3 (o := 1) (W := 7) rfl inb_S256x8x1024_S256x7x1024_0_1_0 inb_S256x8x1024_S256x7x1024_0_0_0 (s0 x) _
      (pay5_apply _ _) b k)
theorem s2_win : ∀ r < 8, col3 (s2 x) b k r = win (col3 (s0 x) b k) 4 r :=
  win_pass (w := 2) (s1_win x b k)
    (pass3 (o := 2) (W := 6) rfl inb_S256x8x1024_S256x6x1024_0_2_0 inb_S256x8x1024_S256x6x1024_0_0_0 (s1 x) _
      (pay76_apply _ _) b k)
/-- Row `r` of block `b` ends with the product of the block's rows up to `r`. -/
theorem s3_win : ∀ r < 8, col3 (s3 x) b k r = win (col3 (s0 x) b k) 8 r :=
  win_pass (w := 4) (s2_win x b k)
    (pass3 (o := 4) (W := 4) rfl inb_S256x8x1024_S256x4x1024_0_4_0 inb_S256x8x1024_S256x4x1024_0_0_0 (s2 x) _
      (pay8_apply _ _) b k)

/-! ## The eight passes over the block totals -/

theorem b1_win : ∀ i < 256, colB (b1 x) k i = win (colB (b0 x) k) 2 i :=
  win_pass (w := 1) (fun i _ => (win_one _ i).symm)
    (passB (o := 1) (W := 255) rfl inb_S256x1024_S255x1024_1_0 inb_S256x1024_S255x1024_0_0 (b0 x) _ (pay10_apply _ _) k)
theorem b2_win : ∀ i < 256, colB (b2 x) k i = win (colB (b0 x) k) 4 i :=
  win_pass (w := 2) (b1_win x k)
    (passB (o := 2) (W := 254) rfl inb_S256x1024_S254x1024_2_0 inb_S256x1024_S254x1024_0_0 (b1 x) _ (pay11_apply _ _) k)
theorem b4_win : ∀ i < 256, colB (b4 x) k i = win (colB (b0 x) k) 8 i :=
  win_pass (w := 4) (b2_win x k)
    (passB (o := 4) (W := 252) rfl inb_S256x1024_S252x1024_4_0 inb_S256x1024_S252x1024_0_0 (b2 x) _ (pay12_apply _ _) k)
theorem b8_win : ∀ i < 256, colB (b8 x) k i = win (colB (b0 x) k) 16 i :=
  win_pass (w := 8) (b4_win x k)
    (passB (o := 8) (W := 248) rfl inb_S256x1024_S248x1024_8_0 inb_S256x1024_S248x1024_0_0 (b4 x) _ (pay13_apply _ _) k)
theorem b16_win : ∀ i < 256, colB (b16 x) k i = win (colB (b0 x) k) 32 i :=
  win_pass (w := 16) (b8_win x k)
    (passB (o := 16) (W := 240) rfl inb_S256x1024_S240x1024_16_0 inb_S256x1024_S240x1024_0_0 (b8 x) _ (pay14_apply _ _) k)
theorem b32_win : ∀ i < 256, colB (b32 x) k i = win (colB (b0 x) k) 64 i :=
  win_pass (w := 32) (b16_win x k)
    (passB (o := 32) (W := 224) rfl inb_S256x1024_S224x1024_32_0 inb_S256x1024_S224x1024_0_0 (b16 x) _ (pay15_apply _ _) k)
theorem b64_win : ∀ i < 256, colB (b64 x) k i = win (colB (b0 x) k) 128 i :=
  win_pass (w := 64) (b32_win x k)
    (passB (o := 64) (W := 192) rfl inb_S256x1024_S192x1024_64_0 inb_S256x1024_S192x1024_0_0 (b32 x) _ (pay16_apply _ _) k)
/-- Row `i` ends with the product of the block totals up to `i`. -/
theorem b128_win : ∀ i < 256, colB (b128 x) k i = win (colB (b0 x) k) 256 i :=
  win_pass (w := 128) (b64_win x k)
    (passB (o := 128) (W := 128) rfl inb_S256x1024_S128x1024_128_0 inb_S256x1024_S128x1024_0_0 (b64 x) _ (pay17_apply _ _) k)

end

/-! ## Rows and blocks of rows -/

section
variable (x : CX Ideal) (k : Fin 1024)

/-- Row `r` of block `b` is row `8 * b + r`. -/
theorem s0_apply (b : Fin 256) {r : ℕ} (hr : r < 8) : col3 (s0 x) b k r = colX x k (8 * b.val + r) := by
  have hb : b.val < 256 := b.isLt
  rw [col3_of_lt _ _ _ hr, colX_of_lt _ _ (show 8 * b.val + r < 2048 by omega)]
  exact pay4_apply x b ⟨r, hr⟩ k ⟨8 * b.val + r, by omega⟩ rfl

/-- A block's running product at row `r`. -/
theorem s3_apply (b : Fin 256) {r : ℕ} (hr : r < 8) :
    col3 (s3 x) b k r = ∏ j ∈ Finset.Ico (8 * b.val) (8 * b.val + r + 1), colX x k j := by
  rw [s3_win x b k r hr, win_all _ hr, Finset.prod_Ico_eq_prod_range, show 8 * b.val + r + 1 - 8 * b.val = r + 1 by omega]
  exact Finset.prod_congr rfl fun j hj => s0_apply x k b (by have := Finset.mem_range.mp hj; omega)

/-- A block's total. -/
theorem b0_apply (b : Fin 256) : colB (b0 x) k b.val = ∏ j ∈ Finset.Ico (8 * b.val) (8 * (b.val + 1)), colX x k j := by
  rw [show 8 * (b.val + 1) = 8 * b.val + 7 + 1 by omega, ← s3_apply x k b (show 7 < 8 by omega), colB_of_lt _ _ b.isLt, col3_of_lt _ _ _ (show 7 < 8 by omega)]
  refine (pay9_apply _ b k).trans ?_
  exact rd3_rows (o := 7) (W := 1) inb_S256x8x1024_S256x1x1024_0_7_0 (s3 x) _ b ⟨7, by omega⟩ k rfl rfl rfl

/-- Totals of consecutive blocks make the product of all their rows. -/
theorem prod_blocks (g t : ℕ → EReal) (n : ℕ) (h : ∀ b < n, t b = ∏ j ∈ Finset.Ico (8 * b) (8 * (b + 1)), g j) :
    ∏ b ∈ Finset.range n, t b = ∏ j ∈ Finset.range (8 * n), g j := by
  induction n with
  | zero => rfl
  | succ n ih =>
    rw [Finset.prod_range_succ, ih fun b hb => h b (by omega), h n (by omega), Finset.range_eq_Ico, Finset.range_eq_Ico,
      Finset.prod_Ico_consecutive _ (by omega) (by omega)]

/-- The running product of the block totals is the product of all rows of the blocks up to `i`. -/
theorem b128_apply {i : ℕ} (hi : i < 256) : colB (b128 x) k i = ∏ j ∈ Finset.range (8 * (i + 1)), colX x k j := by
  rw [b128_win x k i hi, win_all _ hi]
  exact prod_blocks _ _ _ fun b hb => b0_apply x k ⟨b, by omega⟩

end

/-! ## The product handed along the chain -/

/-- What a device sends is what came in times all its own rows. -/
theorem sbAt_apply (xs : ℕ → CX Ideal) (k : Fin 1024) (n : ℕ) :
    colP (pcAt xs (n + 1)) k = colP (pcAt xs n) k * ∏ j ∈ Finset.range 2048, colX (xs n) k j := by
  refine (pay19_apply (k0_pay20 (pcAt xs n) (rdB rLast (b128 (xs n)))) (ix2 (0 : Fin 1) k)).trans ((pay20_apply (pcAt xs n) (rdB rLast (b128 (xs n))) (ix2 (0 : Fin 1) k)).trans ?_)
  refine congrArg (fun v : EReal => colP (pcAt xs n) k * v) ?_
  rw [show (2048 : ℕ) = 8 * (255 + 1) from rfl, ← b128_apply (xs n) k (show 255 < 256 by omega), colB_of_lt _ _ (show 255 < 256 by omega)]
  exact rdB_rows (o := 255) (W := 1) inb_S256x1024_S1x1024_255_0 (b128 (xs n)) (ix2 (0 : Fin 1) k) ⟨255, by omega⟩ k rfl rfl

/-- What comes into device `n` is the product of all rows of the devices before it. -/
theorem pcAt_apply (xs : ℕ → CX Ideal) (k : Fin 1024) (n : ℕ) :
    colP (pcAt xs n) k = ∏ d ∈ Finset.range n, ∏ j ∈ Finset.range 2048, colX (xs d) k j := by
  induction n with
  | zero => exact pay18_apply (ix2 (0 : Fin 1) k)
  | succ n ih => rw [Finset.prod_range_succ, ← ih, sbAt_apply]

/-! ## The block multipliers and the result -/

section
variable (x : CX Ideal) (p : CP Ideal) (k : Fin 1024)

/-- What multiplies block `b`: what came in, times all rows of the blocks before it. -/
theorem ebAt_apply (b : Fin 256) : colB (ebAt x p) k b.val = (∏ j ∈ Finset.range (8 * b.val), colX x k j) * colP p k := by
  have hb : b.val < 256 := b.isLt
  rw [colB_of_lt _ _ hb]
  unfold ebAt
  by_cases h : b.val = 0
  · refine (wrE_in (o := 0) (W := 1) inb_S256x1024_S1x1024_0_0 _ (k0_pay2 p) ⟨b.val, hb⟩ (0 : Fin 1) k (show b.val = 0 + 0 by omega)).trans ((pay2_apply p _).trans ?_)
    rw [h, Nat.mul_zero, Finset.range_zero, Finset.prod_empty, one_mul]
    rfl
  · refine (wrE_out (o := 0) (W := 1) inb_S256x1024_S1x1024_0_0 _ (k0_pay2 p) _ k (Or.inr (show 0 + 1 ≤ b.val by omega))).trans ?_
    refine (wrE_in (o := 1) (W := 255) inb_S256x1024_S255x1024_1_0 _ (k0_pay1 (rdB L1 (b128 x)) p) _ ⟨b.val - 1, by omega⟩ k (show b.val = 1 + (b.val - 1) by omega)).trans ?_
    refine (pay1_apply (rdB L1 (b128 x)) p _ k).trans (congrArg (fun v : EReal => v * colP p k) ?_)
    rw [show 8 * b.val = 8 * (b.val - 1 + 1) by omega, ← b128_apply x k (show b.val - 1 < 256 by omega), colB_of_lt _ _ (show b.val - 1 < 256 by omega)]
    refine rdB_rows (o := 0) (W := 255) inb_S256x1024_S255x1024_0_0 (b128 x) _ ⟨b.val - 1, by omega⟩ k ?_ rfl
    show b.val - 1 = 0 + (b.val - 1); omega

/-- Row `i` of the result: what came in, times the device's rows up to `i`. -/
theorem outOf_apply {i : ℕ} (hi : i < 2048) :
    colX (outOf x p) k i = (∏ j ∈ Finset.range (i + 1), colX x k j) * colP p k := by
  rw [colX_of_lt _ _ hi]
  have hb : i / 8 < 256 := by omega
  have hr : i % 8 < 8 := Nat.mod_lt _ (by omega)
  refine (pay3_apply (s3 x) (ebAt x p) ⟨i / 8, hb⟩ ⟨i % 8, hr⟩ k ⟨i, hi⟩ (show i = 8 * (i / 8) + i % 8 by omega)).trans ?_
  have h3 : col3 (s3 x) ⟨i / 8, hb⟩ k (i % 8) = ∏ j ∈ Finset.Ico (8 * (i / 8)) (i + 1), colX x k j := by
    refine (s3_apply x k ⟨i / 8, hb⟩ hr).trans ?_
    show ∏ j ∈ Finset.Ico (8 * (i / 8)) (8 * (i / 8) + i % 8 + 1), _ = _
    rw [show 8 * (i / 8) + i % 8 = i by omega]
  rw [col3_of_lt _ _ _ hr] at h3
  have he : colB (ebAt x p) k (i / 8) = _ := ebAt_apply x p k ⟨i / 8, hb⟩
  rw [colB_of_lt _ _ hb] at he
  refine (congrArg₂ (fun u v : EReal => u * v) h3 he).trans ?_
  show (∏ j ∈ Finset.Ico (8 * (i / 8)) (i + 1), colX x k j) * ((∏ j ∈ Finset.range (8 * (i / 8)), colX x k j) * colP p k) = _
  rw [Finset.range_eq_Ico, Finset.range_eq_Ico, ← Finset.prod_Ico_consecutive _ (show 0 ≤ 8 * (i / 8) by omega) (show 8 * (i / 8) ≤ i + 1 by omega),
    mul_left_comm, mul_assoc]

end

/-- Row `i` of device `n`'s result: the product of all rows of the devices before it, times its own up to `i`. -/
theorem out_apply (xs : ℕ → CX Ideal) (k : Fin 1024) (n : ℕ) {i : ℕ} (hi : i < 2048) :
    colX (outOf (xs n) (pcAt xs n)) k i
      = ((∏ d ∈ Finset.range n, ∏ j ∈ Finset.range 2048, colX (xs d) k j) * ∏ j ∈ Finset.range (i + 1), colX (xs n) k j : EReal) := by
  rw [outOf_apply _ _ _ hi, pcAt_apply, mul_comm]

end Cert.KernelIdeal.Run

end
-- ==== Proof.Ref.lean ====
/-
# What the reference computes, as products over the extended reals

The reference goes down the rows: before row `n` it carries the product of the rows above it, multiplies that by row
`n`, and writes the product as row `n` of the result. After the last row, row `i` of the result is the product of
rows `0` to `i`.
-/
module

public import proofs.«01_k».proof.Proof.Gen.ReferenceIdeal.Run
public import Idealize.ShloMosaic.PureOps.Ideal
public import Idealize.ShloMosaic.Lib.ValueIdx
public import Idealize.ShloMosaic.Lib.ValueIdxCore
public import Idealize.ShloMosaic.Lib.Pipeline.Value
public import Idealize.ShloMosaic.Lib.IdealHost
public import Idealize.ShloMosaic.Lib.WordCmp
public import Idealize.ShloMosaic.Lib.DynamicIndex

@[expose] public section

noncomputable section

namespace Cert.ReferenceIdeal.Scan

open Cert.ReferenceIdeal Cert.ReferenceIdeal.Gen Cert.ReferenceIdeal.Value
open Idealize.ShloMosaic Idealize.ShloMosaic.TcCoe Idealize.ShloMosaic.ValueIdx Idealize.ShloMosaic.StableHlo

/-- The contents of a whole array, -/
abbrev CR : Type := FVec Ideal S65536x1024 .f32
/-- and of one row. -/
abbrev CV : Type := FVec Ideal S1024 .f32

/-- Column `k` of a whole array. -/
def colR (f : CR) (k : Fin 1024) (i : ℕ) : EReal := if h : i < 65536 then f (ix2 ⟨i, h⟩ k) else 1
theorem colR_of_lt (f : CR) (k : Fin 1024) {i : ℕ} (h : i < 65536) : colR f k i = f (ix2 ⟨i, h⟩ k) := dif_pos h
/-- Entry `k` of a row. -/
def colV (f : CV) (k : Fin 1024) : EReal := f (ix1 k)

/-- A row number below `2 ^ 31` beside column zero. -/
abbrev startAt (n : ℕ) : Fin 2 → ℕ := ![n, 0]

/-- The row read at row number `n`. -/
theorem row_read (x : CR) (start : Fin 2 → Int) {n : ℕ} (hn : n < 65536) (hs : ∀ a, start a = (startAt n a : Int)) (k : Fin 1024) :
    colV (shapeCast S1024 (Host.dynamicSlice S1x1024 x start sliceFits_S65536x1024_S1x1024) shapeCasts_S1x1024_S1024) k = colR x k n := by
  have hfit : S65536x1024.Slices (startAt n) S1x1024 := ⟨rfl, fun a => by
    match a with
    | ⟨0, _⟩ => show n + 1 ≤ 65536; omega
    | ⟨1, _⟩ => show 0 + 1024 ≤ 1024; omega⟩
  rw [colR_of_lt x k hn, Idealize.ShloMosaic.WordCmp.dynamicSlice_eq_extract S1x1024 x start sliceFits_S65536x1024_S1x1024 (startAt n) hfit hs]
  refine (shapeCast_apply _ _ (ix1 k) (ix2 (0 : Fin 1) k) ?_).trans ?_
  · rw [Shape.rowMajor_val_two, Shape.rowMajor_val_one]
    show 0 * 1024 + k.val = k.val
    omega
  · refine extractStridedSlice_apply _ x hfit (ix2 (0 : Fin 1) k) (ix2 ⟨n, hn⟩ k) fun a => ?_
    match a with
    | ⟨0, _⟩ => show n = n + 0; omega
    | ⟨1, _⟩ => show k.val = 0 + k.val; omega

/-- An array with row `n` replaced, read at row `i`. -/
theorem row_write (y : CR) (v : CV) (start : Fin 2 → Int) {n : ℕ} (hn : n < 65536) (hs : ∀ a, start a = (startAt n a : Int)) (k : Fin 1024)
    {i : ℕ} (hi : i < 65536) :
    colR (Host.dynamicUpdateSlice y (broadcastInDim S1x1024 ![1] bcast_S1024_S1x1024_1 v) start updateFits_S65536x1024_S1x1024) k i
      = if i = n then colV v k else colR y k i := by
  have hfit : S65536x1024.Slices (startAt n) S1x1024 := ⟨rfl, fun a => by
    match a with
    | ⟨0, _⟩ => show n + 1 ≤ 65536; omega
    | ⟨1, _⟩ => show 0 + 1024 ≤ 1024; omega⟩
  have hk : k.val < 1024 := k.isLt
  rw [colR_of_lt _ k hi, colR_of_lt _ k hi, Idealize.ShloMosaic.WordCmp.dynamicUpdateSlice_eq_update y _ start updateFits_S65536x1024_S1x1024 (startAt n) hfit hs]
  unfold updateSlice
  by_cases h : i = n
  · rw [if_pos h]
    refine (dif_pos fun a => ?_).trans ?_
    · match a with
      | ⟨0, _⟩ => exact ⟨show n ≤ i by omega, show i < n + 1 by omega⟩
      | ⟨1, _⟩ => exact ⟨Nat.zero_le _, show k.val < 0 + 1024 by omega⟩
    · refine broadcastInDim_apply _ _ v _ (ix1 k) fun a => ?_
      match a with
      | ⟨0, _⟩ => show k.val = k.val - 0; omega
  · rw [if_neg h]
    refine dif_neg fun hin => h ?_
    have h0 : n ≤ i ∧ i < n + 1 := hin (0 : Fin 2)
    omega

/-- The position the loop reads and writes at, counting rows by `n`. -/
theorem start_eq (w : IVec S_ 32) {n : ℕ} (hn : n < 65536) (hw : w = fun _ => BitVec.ofNat 32 n) :
    ∀ a, (fun k : Fin 2 => (((![w, constantI S_ 32 0#32] : Fin 2 → IVec S_ 32)) k (Shape.Idx.first h_S_)).toInt) a = (startAt n a : Int) := by
  intro a
  subst hw
  match a with
  | ⟨0, _⟩ => exact toInt_ofNat_of_lt (by omega)
  | ⟨1, _⟩ => rfl

variable (V : Valuation τ sig (Elt Ideal)) (x : CR)

/-- The contents of the loop's four buffers before row `n`. -/
structure Before (V : Valuation τ sig (Elt Ideal)) (x : CR) (n : ℕ) : Prop where
  arg : V (Proc.devRef .tc main_v2_0) = x
  ctr : V (Proc.devRef .tc main_v2_1) = fun _ => BitVec.ofNat 32 n
  acc : ∀ k, colV (V (Proc.devRef .tc main_v2_2)) k = ∏ j ∈ Finset.range n, colR x k j
  out : ∀ k, ∀ i < n, colR (V (Proc.devRef .tc main_v2_3)) k i = ∏ j ∈ Finset.range (i + 1), colR x k j

/-- What a trip multiplies out: the rows above, and this one. -/
theorem acc_step {n : ℕ} (hn : n < 65536) {V : Valuation τ sig (Elt Ideal)} {x : CR} (h : Before V x n) (k : Fin 1024) :
    colV (res_main_while0b_v4 V) k = ∏ j ∈ Finset.range (n + 1), colR x k j := by
  rw [Finset.prod_range_succ, ← h.acc k, ← row_read x _ hn (start_eq _ hn h.ctr) k]
  unfold res_main_while0b_v4
  rw [h.arg]
  rfl

/-- One trip goes one row down. -/
theorem before_step {n : ℕ} (hn : n < 65536) {V : Valuation τ sig (Elt Ideal)} {x : CR} (h : Before V x n) : Before (STEP V) x (n + 1) where
  arg := (STEP_main_v2_0 V).trans h.arg
  ctr := by
    rw [STEP_main_v2_1]
    unfold step_main_v2_1
    rw [h.ctr]
    funext _
    show BitVec.ofNat 32 n + 1#32 = BitVec.ofNat 32 (n + 1)
    rw [BitVec.ofNat_add]
  acc := fun k => by
    rw [STEP_main_v2_2]
    exact acc_step hn h k
  out := fun k i hi => by
    rw [STEP_main_v2_3]
    refine (row_write (V (Proc.devRef .tc main_v2_3)) (res_main_while0b_v4 V) _ hn (start_eq _ hn h.ctr) k (show i < 65536 by omega)).trans ?_
    by_cases hin : i = n
    · rw [if_pos hin, hin]; exact acc_step hn h k
    · rw [if_neg hin]; exact h.out k i (by omega)

/-- After `n` trips. -/
theorem before_iterate {V : Valuation τ sig (Elt Ideal)} {x : CR} (h : Before V x 0) : ∀ n ≤ 65536, Before (STEP^[n] V) x n
  | 0, _ => h
  | n + 1, hn => by
    rw [Function.iterate_succ_apply']
    exact before_step (by omega) (before_iterate h n (by omega))

/-- The word of the float one denotes one. -/
theorem ofBits_one : Ideal.ofBits .f32 0x3F800000#32 = 1 := by
  simp [Ideal.ofBits, Ideal.ieee, -EReal.coe_mul]; norm_num

variable (m : (ℓ : Loc nD τ sig) → Buf (Elt Ideal) ℓ)

/-- The loop is entered with nothing multiplied yet. -/
theorem before_entry (c : Dev nD) : Before (entryContents preI m c) (m ((c.tc : Thread nD τ).loc main_arg0)) 0 where
  arg := by
    simp only [entryContents, afterL_cons, afterL_nil]
    after_reads_simp
    rfl
  ctr := ctr_entry m c
  acc := fun k => by
    rw [Finset.range_zero, Finset.prod_empty]
    simp only [entryContents, afterL_cons, afterL_nil]
    after_reads_simp
    exact ofBits_one
  out := fun k i hi => absurd hi (Nat.not_lt_zero i)

/-- The reference's result: row `i` is the product of rows `0` to `i`. -/
theorem result_apply (c : Dev nD) (k : Fin 1024) {i : ℕ} (hi : i < 65536) :
    colR ((STEP^[65536] (entryContents preI m c)) (Proc.devRef .tc main_v2_3)) k i
      = ∏ j ∈ Finset.range (i + 1), colR (m ((c.tc : Thread nD τ).loc main_arg0)) k j :=
  (before_iterate (before_entry m c) 65536 (le_refl _)).out k i hi

end Cert.ReferenceIdeal.Scan

end
-- ==== Proof.Equation.lean ====
/-
# The kernel's results are the blocks of the reference's

Device `c` holds rows `2048 * c` to `2048 * c + 2047` of the whole array. The product of all rows of the devices before
it, times its own rows up to row `i`, is the product of the whole array's rows up to row `2048 * c + i`.
-/
module

public import proofs.«01_k».proof.Proof.Launch
public import proofs.«01_k».proof.Proof.Product
public import proofs.«01_k».proof.Proof.Ref
public import Idealize.ShloMosaic.Lib.Layout

@[expose] public section

noncomputable section

namespace Cert.KernelIdeal.Run

open Cert.KernelIdeal Cert.KernelIdeal.Gen
open Idealize.ShloMosaic Idealize.ShloMosaic.TcCoe Idealize.ShloMosaic.ValueIdx
open Cert.ReferenceIdeal.Scan (CR colR colR_of_lt)

/-- Rows counted device by device are the rows counted through. -/
theorem prod_devices (g : ℕ → EReal) (h : ℕ → ℕ → EReal) (n : ℕ) (hh : ∀ d < n, ∀ j < 2048, h d j = g (2048 * d + j)) :
    ∏ d ∈ Finset.range n, ∏ j ∈ Finset.range 2048, h d j = ∏ j ∈ Finset.range (2048 * n), g j := by
  induction n with
  | zero => rfl
  | succ n ih =>
    rw [Finset.prod_range_succ, ih fun d hd => hh d (by omega), Nat.mul_succ, Finset.prod_range_add]
    exact congrArg _ (Finset.prod_congr rfl fun j hj => hh n (by omega) j (Finset.mem_range.mp hj))

/-- Device `n`'s results, row by row, where the devices hold the blocks of the whole array. -/
theorem out_whole (x : CR) (xs : ℕ → CX Ideal) (k : Fin 1024) (hx : ∀ d < 32, ∀ j < 2048, colX (xs d) k j = colR x k (2048 * d + j))
    {n : ℕ} (hn : n < 32) {i : ℕ} (hi : i < 2048) :
    colX (outOf (xs n) (pcAt xs n)) k i = ∏ j ∈ Finset.range (2048 * n + i + 1), colR x k j := by
  rw [out_apply xs k n hi, prod_devices (colR x k) (fun d j => colX (xs d) k j) n fun d hd j hj => hx d (by omega) j hj, Nat.add_assoc, Finset.prod_range_add (colR x k) (2048 * n) (i + 1)]
  exact congrArg _ (Finset.prod_congr rfl fun j hj => hx n hn j (by have := Finset.mem_range.mp hj; omega))

/-- A block of the whole array, column by column. -/
theorem block_col (v : CR) (c : Dev nD) (k : Fin 1024) {i : ℕ} (hi : i < 2048) :
    colX (Layout.block ⟨2, ![2048, 1024]⟩ ⟨2, ![65536, 1024]⟩ 0 32 c v) k i = colR v k (2048 * c.val + i) := by
  have hc : c.val < 32 := c.isLt
  rw [colX_of_lt _ k hi, colR_of_lt v k (show 2048 * c.val + i < 65536 by omega)]
  refine congrArg v (funext fun a => Fin.ext ?_)
  match a with
  | ⟨0, _⟩ => show c.val * 2048 + i = 2048 * c.val + i; omega
  | ⟨1, _⟩ => rfl

/-- Two 2048-row arrays with the same columns are the same. -/
theorem ext_col (f g : CX Ideal) (h : ∀ k, ∀ i < 2048, colX f k i = colX g k i) : f = g := by
  funext y
  have h0 : (y (0 : Fin 2)).val < 2048 := (y (0 : Fin 2)).isLt
  have e : ∀ u : CX Ideal, colX u (y (1 : Fin 2)) (y (0 : Fin 2)).val = u y := fun u =>
    (colX_of_lt u (y (1 : Fin 2)) h0).trans (congrArg u (eq_ix2 (n0 := 2048) (n1 := 1024) y).symm)
  exact (e f).symm.trans ((h (y (1 : Fin 2)) _ h0).trans (e g))

section
variable {F : FTy → Type} [FloatOps F] (m : (ℓ : Loc nD τ sig) → Buf (Elt F) ℓ) (ρ : Dev nD → PrngReg)

/-- The device's block of the argument is its argument array. -/
theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array ends with what the device computed. -/
theorem finalA_out (c : Dev nD) : finalA m ρ c (1 : Fin 2) = outAt m ρ c := by
  have hz : (fun a => (win0_1.index (0 : Fin 1)) a * main_v1.ty.shape.size a) = fun _ => 0 := funext fun a => by fin_cases a <;> decide
  have hr : (win0_1.blk (0 : Fin 1)).view.read (Elt F) (finalA m ρ c (1 : Fin 2)) = finalA m ρ c (1 : Fin 2) :=
    Memref.read_access_unit_zero (Elt F) main_v1 hz (fun a => by fin_cases a <;> decide) _
  refine hr.symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _
end

/-- Where the devices hold the blocks of the whole array `x`, and column by column row `i` of `v` is the product of `x`'s rows up
    to `i`, every device's result is its block of `v`. -/
theorem finalA_block (m : (ℓ : Loc nD τ sig) → Buf (Elt Ideal) ℓ) (ρ : Dev nD → PrngReg) (x v : CR)
    (hx : ∀ c : Dev nD, m ((c.tc : Thread nD τ).loc main_arg0) = Layout.block ⟨2, ![2048, 1024]⟩ ⟨2, ![65536, 1024]⟩ 0 32 c x)
    (hv : ∀ k, ∀ i < 65536, colR v k i = ∏ j ∈ Finset.range (i + 1), colR x k j) (c : Dev nD) :
    finalA m ρ c (1 : Fin 2) = Layout.block ⟨2, ![2048, 1024]⟩ ⟨2, ![65536, 1024]⟩ 0 32 c v := by
  have hc : c.val < 32 := c.isLt
  rw [finalA_out]
  refine ext_col _ _ fun k i hi => ?_
  rw [block_col v c k hi, hv k _ (by omega)]
  unfold outAt pcv
  rw [← xsAt_val m ρ c]
  refine out_whole x (xsAt m ρ) k (fun d hd j hj => ?_) hc hi
  have hd' : xsAt m ρ d = Layout.block ⟨2, ![2048, 1024]⟩ ⟨2, ![65536, 1024]⟩ 0 32 (⟨d, hd⟩ : Dev nD) x := by
    rw [← hx ⟨d, hd⟩, ← xstg_eq m ρ ⟨d, hd⟩]
    exact xsAt_val m ρ ⟨d, hd⟩
  rw [hd']
  exact block_col x ⟨d, hd⟩ k hj

end Cert.KernelIdeal.Run

end
-- ==== Proof.lean ====
/-
# The claims proved

Every program's executions all end with its argument unchanged and every semaphore at zero, and with exact arithmetic
every device's result is its block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem
open Cert.KernelIdeal.Run (run_main finalA_in finalA_block)

/-- The kernel and its copy for exact arithmetic have the same text: their kernel bodies' tables are equal. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are their whole tables. -/
theorem defs_eq {F : FTy → Type} [FloatOps F] : Cert.Kernel.defs (F := F) = Cert.KernelIdeal.defs (F := F) := by
  unfold Cert.Kernel.defs Cert.KernelIdeal.defs
  rw [defs₀_eq]
  rfl

/-- Every execution of the kernel as written ends with its argument unchanged and every semaphore at zero. -/
theorem frame_kernel : Cert.quiescent_Kernel := fun m ρ _ => by
  rw [defs_eq]
  exact (θ_run Cert.KernelIdeal.defs _ _).mono (fun _ h => ⟨fun c => (h.1 c (0 : Fin 2)).trans (finalA_in m ρ c), h.2⟩) (run_main (F := Bits) m ρ)

/-- So does every execution of the kernel with exact arithmetic. -/
theorem frame_kernelIdeal : Cert.quiescent_KernelIdeal := fun m ρ _ =>
  (θ_run Cert.KernelIdeal.defs _ _).mono (fun _ h => ⟨fun c => (h.1 c (0 : Fin 2)).trans (finalA_in m ρ c), h.2⟩) (run_main (F := Ideal) m ρ)

/-- Every execution of the reference ends with its argument unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With exact arithmetic every device's result is its block of the reference's. -/
theorem algebraic : Cert.algebraic_KernelIdeal_ReferenceIdeal := fun m ρ m' ρ' _ hx =>
  ⟨_,
    (θ_run Cert.KernelIdeal.defs _ _).mono
      (fun _ h c => ⟨(h.1 c (1 : Fin 2)).trans
          (finalA_block m ρ _ _ hx (fun k i hi => Cert.ReferenceIdeal.Scan.result_apply m' 0 k hi) c),
        (h.1 c (0 : Fin 2)).trans (finalA_in m ρ c)⟩)
      (run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
